-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_routable [hPre_finite_and_routable : Cert.Pre_finite_and_routable.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_routable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_finite_and_routable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_finite_and_routable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_finite_and_routable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_finite_and_routable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_finite_and_routable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_finite_and_routable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_finite_and_routable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_finite_and_routable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.1 = (fun _ => 1#1)
    ∧ (Cert.Pre_finite_and_routable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.1 = (fun _ => 1#1)
    ∧ (Cert.Pre_finite_and_routable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.1 = (fun _ => 1#1)
    ∧ (Cert.Pre_finite_and_routable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.1 = (fun _ => 1#1)
    ∧ (Cert.Pre_finite_and_routable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.1 = (fun _ => 1#1)
    ∧ (Cert.Pre_finite_and_routable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.1 = (fun _ => 1#1)
    ∧ (Cert.Pre_finite_and_routable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.2.1 = (fun _ => 1#1)
    ∧ (Cert.Pre_finite_and_routable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_routable [hPre_finite_and_routable : Cert.Pre_finite_and_routable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_routable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_finite_and_routable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_finite_and_routable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_finite_and_routable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_finite_and_routable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_finite_and_routable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_finite_and_routable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_finite_and_routable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.1 = (fun _ => 1#1)
    ∧ (Cert.Pre_finite_and_routable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.1 = (fun _ => 1#1)
    ∧ (Cert.Pre_finite_and_routable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.1 = (fun _ => 1#1)
    ∧ (Cert.Pre_finite_and_routable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.1 = (fun _ => 1#1)
    ∧ (Cert.Pre_finite_and_routable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.1 = (fun _ => 1#1)
    ∧ (Cert.Pre_finite_and_routable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.1 = (fun _ => 1#1)
    ∧ (Cert.Pre_finite_and_routable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.1 = (fun _ => 1#1)
    ∧ (Cert.Pre_finite_and_routable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.2.1 = (fun _ => 1#1)
    ∧ (Cert.Pre_finite_and_routable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_and_routable [hKernelIdeal : Cert.KernelIdeal.Facts] [hPre_finite_and_routable : Cert.Pre_finite_and_routable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_routable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_and_routable [hReferenceIdeal : Cert.ReferenceIdeal.Facts] [hPre_finite_and_routable : Cert.Pre_finite_and_routable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_routable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "inv_hw" .f32 0x37A72F05#32 ((1 / 50176 : ℝ) : EReal)

def algebraic_KernelIdeal_ReferenceIdeal_pre_finite_and_routable [hKernelIdeal : Cert.KernelIdeal.Facts] [hReferenceIdeal : Cert.ReferenceIdeal.Facts] [hPre_finite_and_routable : Cert.Pre_finite_and_routable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_routable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v260) = v0 c
          ∧ r.2.mem ((c.tc : Thread Cert.ReferenceIdeal.nD Cert.ReferenceIdeal.τ).loc Cert.ReferenceIdeal.main_v231) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_and_routable : Cert.Pre_finite_and_routable.Facts),
    quiescent_Kernel (hKernel := hKernel)
    ∧ quiescent_KernelIdeal (hKernelIdeal := hKernelIdeal)
    ∧ quiescent_KernelIdeal_pre_finite_and_routable (hKernelIdeal := hKernelIdeal) (hPre_finite_and_routable := hPre_finite_and_routable)
    ∧ quiescent_ReferenceIdeal (hReferenceIdeal := hReferenceIdeal)
    ∧ quiescent_ReferenceIdeal_pre_finite_and_routable (hReferenceIdeal := hReferenceIdeal) (hPre_finite_and_routable := hPre_finite_and_routable)
    ∧ preserves_Kernel_KernelIdeal
    ∧ algebraic_KernelIdeal_ReferenceIdeal_pre_finite_and_routable (hKernelIdeal := hKernelIdeal) (hReferenceIdeal := hReferenceIdeal) (hPre_finite_and_routable := hPre_finite_and_routable)
-- ==== Pre_finite_and_routable.lean ====
abbrev S128x3x224x224 : Shape := ⟨4, ![128, 3, 224, 224]⟩
abbrev S128x16 : Shape := ⟨2, ![128, 16]⟩
abbrev S6x3x3x3 : Shape := ⟨4, ![6, 3, 3, 3]⟩
abbrev S6 : Shape := ⟨1, ![6]⟩
abbrev S12x6x3x3 : Shape := ⟨4, ![12, 6, 3, 3]⟩
abbrev S12 : Shape := ⟨1, ![12]⟩
abbrev S12x12x3x3 : Shape := ⟨4, ![12, 12, 3, 3]⟩
abbrev S16x12 : Shape := ⟨2, ![16, 12]⟩
abbrev S16 : Shape := ⟨1, ![16]⟩
abbrev S_ : Shape := ⟨0, ![]⟩
abbrev S128 : Shape := ⟨1, ![128]⟩

class Facts : Prop where
  bcast_S_S128x3x224x224 : S_.BroadcastsInDim S128x3x224x224 (![] : Fin 0 → Fin S128x3x224x224.rank)
  bcast_S_S6x3x3x3 : S_.BroadcastsInDim S6x3x3x3 (![] : Fin 0 → Fin S6x3x3x3.rank)
  bcast_S_S6 : S_.BroadcastsInDim S6 (![] : Fin 0 → Fin S6.rank)
  bcast_S_S12x6x3x3 : S_.BroadcastsInDim S12x6x3x3 (![] : Fin 0 → Fin S12x6x3x3.rank)
  bcast_S_S12 : S_.BroadcastsInDim S12 (![] : Fin 0 → Fin S12.rank)
  bcast_S_S12x12x3x3 : S_.BroadcastsInDim S12x12x3x3 (![] : Fin 0 → Fin S12x12x3x3.rank)
  bcast_S_S16x12 : S_.BroadcastsInDim S16x12 (![] : Fin 0 → Fin S16x12.rank)
  bcast_S_S16 : S_.BroadcastsInDim S16 (![] : Fin 0 → Fin S16.rank)
  bcast_S_S128x16 : S_.BroadcastsInDim S128x16 (![] : Fin 0 → Fin S128x16.rank)
  reducesTo_S128x16_S128_d1 : S128x16.ReducesTo [1] S128
  h_S_ : 0 < S_.numel

variable [Facts]

def fn_part2 {F : FTy → Type} [FloatOps F] (main_arg1 : IVec S128x16 32) (main_arg13 : FVec F S12 .f32) (main_arg14 : FVec F S16x12 .f32) (main_arg15 : FVec F S16 .f32) (main_v2 : IVec S128x3x224x224 1) (main_v5 : IVec S6x3x3x3 1) (main_v8 : IVec S6 1) (main_v11 : IVec S6 1) (main_v14 : IVec S6 1) (main_v17 : IVec S12x6x3x3 1) (main_v20 : IVec S12 1) (main_v23 : IVec S12 1) (main_v26 : IVec S12 1) (main_v29 : IVec S12x12x3x3 1) (main_v32 : IVec S12 1) (main_v35 : IVec S12 1) : IVec S128x3x224x224 1 × IVec S6x3x3x3 1 × IVec S6 1 × IVec S6 1 × IVec S6 1 × IVec S12x6x3x3 1 × IVec S12 1 × IVec S12 1 × IVec S12 1 × IVec S12x12x3x3 1 × IVec S12 1 × IVec S12 1 × IVec S12 1 × IVec S16x12 1 × IVec S16 1 × IVec S128 1 :=
  let main_v36 : FVec F S12 .f32 := Host.absf main_arg13
  let main_cst_11 : FVec F S_ .f32 := constant S_ .f32 0x7F800000#32
  let main_v37 : FVec F S12 .f32 := broadcastInDim S12 ![] bcast_S_S12 main_cst_11
  let main_v38 : IVec S12 1 := cmpf .olt main_v36 main_v37
  let main_v39 : FVec F S16x12 .f32 := Host.absf main_arg14
  let main_cst_12 : FVec F S_ .f32 := constant S_ .f32 0x7F800000#32
  let main_v40 : FVec F S16x12 .f32 := broadcastInDim S16x12 ![] bcast_S_S16x12 main_cst_12
  let main_v41 : IVec S16x12 1 := cmpf .olt main_v39 main_v40
  let main_v42 : FVec F S16 .f32 := Host.absf main_arg15
  let main_cst_13 : FVec F S_ .f32 := constant S_ .f32 0x7F800000#32
  let main_v43 : FVec F S16 .f32 := broadcastInDim S16 ![] bcast_S_S16 main_cst_13
  let main_v44 : IVec S16 1 := cmpf .olt main_v42 main_v43
  let main_c : IVec S_ 32 := constantI S_ 32 0#32
  let main_v45 : IVec S128x16 32 := broadcastInDim S128x16 ![] bcast_S_S128x16 main_c
  let main_v46 : IVec S128x16 1 := cmpi .ne main_arg1 main_v45
  let main_c_14 : IVec S_ 1 := constantI S_ 1 0#1
  let main_v47 : IVec S128 1 := (fun x v => Host.reduce IntOp.ori x v reducesTo_S128x16_S128_d1 h_S_) main_v46 main_c_14
  (main_v2, main_v5, main_v8, main_v11, main_v14, main_v17, main_v20, main_v23, main_v26, main_v29, main_v32, main_v35, main_v38, main_v41, main_v44, main_v47)

def fn_part1 {F : FTy → Type} [FloatOps F] (main_arg1 : IVec S128x16 32) (main_arg7 : FVec F S12 .f32) (main_arg8 : FVec F S12 .f32) (main_arg9 : FVec F S12 .f32) (main_arg10 : FVec F S12x12x3x3 .f32) (main_arg11 : FVec F S12 .f32) (main_arg12 : FVec F S12 .f32) (main_arg13 : FVec F S12 .f32) (main_arg14 : FVec F S16x12 .f32) (main_arg15 : FVec F S16 .f32) (main_v2 : IVec S128x3x224x224 1) (main_v5 : IVec S6x3x3x3 1) (main_v8 : IVec S6 1) (main_v11 : IVec S6 1) (main_v14 : IVec S6 1) (main_v17 : IVec S12x6x3x3 1) : IVec S128x3x224x224 1 × IVec S6x3x3x3 1 × IVec S6 1 × IVec S6 1 × IVec S6 1 × IVec S12x6x3x3 1 × IVec S12 1 × IVec S12 1 × IVec S12 1 × IVec S12x12x3x3 1 × IVec S12 1 × IVec S12 1 × IVec S12 1 × IVec S16x12 1 × IVec S16 1 × IVec S128 1 :=
  let main_v18 : FVec F S12 .f32 := Host.absf main_arg7
  let main_cst_5 : FVec F S_ .f32 := constant S_ .f32 0x7F800000#32
  let main_v19 : FVec F S12 .f32 := broadcastInDim S12 ![] bcast_S_S12 main_cst_5
  let main_v20 : IVec S12 1 := cmpf .olt main_v18 main_v19
  let main_v21 : FVec F S12 .f32 := Host.absf main_arg8
  let main_cst_6 : FVec F S_ .f32 := constant S_ .f32 0x7F800000#32
  let main_v22 : FVec F S12 .f32 := broadcastInDim S12 ![] bcast_S_S12 main_cst_6
  let main_v23 : IVec S12 1 := cmpf .olt main_v21 main_v22
  let main_v24 : FVec F S12 .f32 := Host.absf main_arg9
  let main_cst_7 : FVec F S_ .f32 := constant S_ .f32 0x7F800000#32
  let main_v25 : FVec F S12 .f32 := broadcastInDim S12 ![] bcast_S_S12 main_cst_7
  let main_v26 : IVec S12 1 := cmpf .olt main_v24 main_v25
  let main_v27 : FVec F S12x12x3x3 .f32 := Host.absf main_arg10
  let main_cst_8 : FVec F S_ .f32 := constant S_ .f32 0x7F800000#32
  let main_v28 : FVec F S12x12x3x3 .f32 := broadcastInDim S12x12x3x3 ![] bcast_S_S12x12x3x3 main_cst_8
  let main_v29 : IVec S12x12x3x3 1 := cmpf .olt main_v27 main_v28
  let main_v30 : FVec F S12 .f32 := Host.absf main_arg11
  let main_cst_9 : FVec F S_ .f32 := constant S_ .f32 0x7F800000#32
  let main_v31 : FVec F S12 .f32 := broadcastInDim S12 ![] bcast_S_S12 main_cst_9
  let main_v32 : IVec S12 1 := cmpf .olt main_v30 main_v31
  let main_v33 : FVec F S12 .f32 := Host.absf main_arg12
  let main_cst_10 : FVec F S_ .f32 := constant S_ .f32 0x7F800000#32
  let main_v34 : FVec F S12 .f32 := broadcastInDim S12 ![] bcast_S_S12 main_cst_10
  let main_v35 : IVec S12 1 := cmpf .olt main_v33 main_v34
  fn_part2 (F := F) main_arg1 main_arg13 main_arg14 main_arg15 main_v2 main_v5 main_v8 main_v11 main_v14 main_v17 main_v20 main_v23 main_v26 main_v29 main_v32 main_v35

def fn {F : FTy → Type} [FloatOps F] (main_arg0 : FVec F S128x3x224x224 .f32) (main_arg1 : IVec S128x16 32) (main_arg2 : FVec F S6x3x3x3 .f32) (main_arg3 : FVec F S6 .f32) (main_arg4 : FVec F S6 .f32) (main_arg5 : FVec F S6 .f32) (main_arg6 : FVec F S12x6x3x3 .f32) (main_arg7 : FVec F S12 .f32) (main_arg8 : FVec F S12 .f32) (main_arg9 : FVec F S12 .f32) (main_arg10 : FVec F S12x12x3x3 .f32) (main_arg11 : FVec F S12 .f32) (main_arg12 : FVec F S12 .f32) (main_arg13 : FVec F S12 .f32) (main_arg14 : FVec F S16x12 .f32) (main_arg15 : FVec F S16 .f32) : IVec S128x3x224x224 1 × IVec S6x3x3x3 1 × IVec S6 1 × IVec S6 1 × IVec S6 1 × IVec S12x6x3x3 1 × IVec S12 1 × IVec S12 1 × IVec S12 1 × IVec S12x12x3x3 1 × IVec S12 1 × IVec S12 1 × IVec S12 1 × IVec S16x12 1 × IVec S16 1 × IVec S128 1 :=
  let main_v0 : FVec F S128x3x224x224 .f32 := Host.absf main_arg0
  let main_cst : FVec F S_ .f32 := constant S_ .f32 0x7F800000#32
  let main_v1 : FVec F S128x3x224x224 .f32 := broadcastInDim S128x3x224x224 ![] bcast_S_S128x3x224x224 main_cst
  let main_v2 : IVec S128x3x224x224 1 := cmpf .olt main_v0 main_v1
  let main_v3 : FVec F S6x3x3x3 .f32 := Host.absf main_arg2
  let main_cst_0 : FVec F S_ .f32 := constant S_ .f32 0x7F800000#32
  let main_v4 : FVec F S6x3x3x3 .f32 := broadcastInDim S6x3x3x3 ![] bcast_S_S6x3x3x3 main_cst_0
  let main_v5 : IVec S6x3x3x3 1 := cmpf .olt main_v3 main_v4
  let main_v6 : FVec F S6 .f32 := Host.absf main_arg3
  let main_cst_1 : FVec F S_ .f32 := constant S_ .f32 0x7F800000#32
  let main_v7 : FVec F S6 .f32 := broadcastInDim S6 ![] bcast_S_S6 main_cst_1
  let main_v8 : IVec S6 1 := cmpf .olt main_v6 main_v7
  let main_v9 : FVec F S6 .f32 := Host.absf main_arg4
  let main_cst_2 : FVec F S_ .f32 := constant S_ .f32 0x7F800000#32
  let main_v10 : FVec F S6 .f32 := broadcastInDim S6 ![] bcast_S_S6 main_cst_2
  let main_v11 : IVec S6 1 := cmpf .olt main_v9 main_v10
  let main_v12 : FVec F S6 .f32 := Host.absf main_arg5
  let main_cst_3 : FVec F S_ .f32 := constant S_ .f32 0x7F800000#32
  let main_v13 : FVec F S6 .f32 := broadcastInDim S6 ![] bcast_S_S6 main_cst_3
  let main_v14 : IVec S6 1 := cmpf .olt main_v12 main_v13
  let main_v15 : FVec F S12x6x3x3 .f32 := Host.absf main_arg6
  let main_cst_4 : FVec F S_ .f32 := constant S_ .f32 0x7F800000#32
  let main_v16 : FVec F S12x6x3x3 .f32 := broadcastInDim S12x6x3x3 ![] bcast_S_S12x6x3x3 main_cst_4
  let main_v17 : IVec S12x6x3x3 1 := cmpf .olt main_v15 main_v16
  fn_part1 (F := F) main_arg1 main_arg7 main_arg8 main_arg9 main_arg10 main_arg11 main_arg12 main_arg13 main_arg14 main_arg15 main_v2 main_v5 main_v8 main_v11 main_v14 main_v17
-- ==== Kernel.lean ====
abbrev S128x3x224x224 : Shape := ⟨4, ![128, 3, 224, 224]⟩
abbrev S128x16 : Shape := ⟨2, ![128, 16]⟩
abbrev S6x3x3x3 : Shape := ⟨4, ![6, 3, 3, 3]⟩
abbrev S6 : Shape := ⟨1, ![6]⟩
abbrev S12x6x3x3 : Shape := ⟨4, ![12, 6, 3, 3]⟩
abbrev S12 : Shape := ⟨1, ![12]⟩
abbrev S12x12x3x3 : Shape := ⟨4, ![12, 12, 3, 3]⟩
abbrev S16x12 : Shape := ⟨2, ![16, 12]⟩
abbrev S16 : Shape := ⟨1, ![16]⟩
abbrev S_ : Shape := ⟨0, ![]⟩
abbrev S6x1x1x1 : Shape := ⟨4, ![6, 1, 1, 1]⟩
abbrev S6x27 : Shape := ⟨2, ![6, 27]⟩
abbrev S6x1x1 : Shape := ⟨3, ![6, 1, 1]⟩
abbrev S12x1x1x1 : Shape := ⟨4, ![12, 1, 1, 1]⟩
abbrev S12x3x3x6 : Shape := ⟨4, ![12, 3, 3, 6]⟩
abbrev S12x54 : Shape := ⟨2, ![12, 54]⟩
abbrev S12x1x1 : Shape := ⟨3, ![12, 1, 1]⟩
abbrev S12x3x3x12 : Shape := ⟨4, ![12, 3, 3, 12]⟩
abbrev S12x108 : Shape := ⟨2, ![12, 108]⟩
abbrev S16x1 : Shape := ⟨2, ![16, 1]⟩
abbrev S16x128 : Shape := ⟨2, ![16, 128]⟩
abbrev S1x3x224x224 : Shape := ⟨4, ![1, 3, 224, 224]⟩
abbrev S3x226x256 : Shape := ⟨3, ![3, 226, 256]⟩
abbrev S6x226x256 : Shape := ⟨3, ![6, 226, 256]⟩
abbrev S12x226x256 : Shape := ⟨3, ![12, 226, 256]⟩
abbrev S12x128 : Shape := ⟨2, ![12, 128]⟩
abbrev S3x224x224 : Shape := ⟨3, ![3, 224, 224]⟩
abbrev S3x224x256 : Shape := ⟨3, ![3, 224, 256]⟩
abbrev S3x224x255 : Shape := ⟨3, ![3, 224, 255]⟩
abbrev S3x224x1 : Shape := ⟨3, ![3, 224, 1]⟩
abbrev S3x224x254 : Shape := ⟨3, ![3, 224, 254]⟩
abbrev S3x224x2 : Shape := ⟨3, ![3, 224, 2]⟩
abbrev S27x224x256 : Shape := ⟨3, ![27, 224, 256]⟩
abbrev S6x224x256 : Shape := ⟨3, ![6, 224, 256]⟩
abbrev S6x224x224 : Shape := ⟨3, ![6, 224, 224]⟩
abbrev S6x224x255 : Shape := ⟨3, ![6, 224, 255]⟩
abbrev S6x224x1 : Shape := ⟨3, ![6, 224, 1]⟩
abbrev S6x224x254 : Shape := ⟨3, ![6, 224, 254]⟩
abbrev S6x224x2 : Shape := ⟨3, ![6, 224, 2]⟩
abbrev S54x224x256 : Shape := ⟨3, ![54, 224, 256]⟩
abbrev S12x224x256 : Shape := ⟨3, ![12, 224, 256]⟩
abbrev S12x224x224 : Shape := ⟨3, ![12, 224, 224]⟩
abbrev S12x224x255 : Shape := ⟨3, ![12, 224, 255]⟩
abbrev S12x224x1 : Shape := ⟨3, ![12, 224, 1]⟩
abbrev S12x224x254 : Shape := ⟨3, ![12, 224, 254]⟩
abbrev S12x224x2 : Shape := ⟨3, ![12, 224, 2]⟩
abbrev S108x224x256 : Shape := ⟨3, ![108, 224, 256]⟩
abbrev S12x1 : Shape := ⟨2, ![12, 1]⟩
abbrev S128 : Shape := ⟨1, ![128]⟩
abbrev S1x128 : Shape := ⟨2, ![1, 128]⟩

abbrev nBuf : Space → Nat
  | .hbm => 61
  | .vmem => 17
  | .smem => 0
  | _ => 0

abbrev bufTy : (tb : Table) → Fin (tcTables nBuf tb) → BufTy
  | .hbm, ⟨0, _⟩ => ⟨S128x3x224x224, .f32⟩
  | .hbm, ⟨1, _⟩ => ⟨S128x16, .i32⟩
  | .hbm, ⟨2, _⟩ => ⟨S6x3x3x3, .f32⟩
  | .hbm, ⟨3, _⟩ => ⟨S6, .f32⟩
  | .hbm, ⟨4, _⟩ => ⟨S6, .f32⟩
  | .hbm, ⟨5, _⟩ => ⟨S6, .f32⟩
  | .hbm, ⟨6, _⟩ => ⟨S12x6x3x3, .f32⟩
  | .hbm, ⟨7, _⟩ => ⟨S12, .f32⟩
  | .hbm, ⟨8, _⟩ => ⟨S12, .f32⟩
  | .hbm, ⟨9, _⟩ => ⟨S12, .f32⟩
  | .hbm, ⟨10, _⟩ => ⟨S12x12x3x3, .f32⟩
  | .hbm, ⟨11, _⟩ => ⟨S12, .f32⟩
  | .hbm, ⟨12, _⟩ => ⟨S12, .f32⟩
  | .hbm, ⟨13, _⟩ => ⟨S12, .f32⟩
  | .hbm, ⟨14, _⟩ => ⟨S16x12, .f32⟩
  | .hbm, ⟨15, _⟩ => ⟨S16, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S6, .f32⟩
  | .hbm, ⟨20, _⟩ => ⟨S6, .f32⟩
  | .hbm, ⟨21, _⟩ => ⟨S6x1x1x1, .f32⟩
  | .hbm, ⟨22, _⟩ => ⟨S6x3x3x3, .f32⟩
  | .hbm, ⟨23, _⟩ => ⟨S6x3x3x3, .f32⟩
  | .hbm, ⟨24, _⟩ => ⟨S6x3x3x3, .f32⟩
  | .hbm, ⟨25, _⟩ => ⟨S6x27, .f32⟩
  | .hbm, ⟨26, _⟩ => ⟨S6, .f32⟩
  | .hbm, ⟨27, _⟩ => ⟨S6, .f32⟩
  | .hbm, ⟨28, _⟩ => ⟨S6x1x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S12, .f32⟩
  | .hbm, ⟨33, _⟩ => ⟨S12, .f32⟩
  | .hbm, ⟨34, _⟩ => ⟨S12x1x1x1, .f32⟩
  | .hbm, ⟨35, _⟩ => ⟨S12x6x3x3, .f32⟩
  | .hbm, ⟨36, _⟩ => ⟨S12x6x3x3, .f32⟩
  | .hbm, ⟨37, _⟩ => ⟨S12x3x3x6, .f32⟩
  | .hbm, ⟨38, _⟩ => ⟨S12x54, .f32⟩
  | .hbm, ⟨39, _⟩ => ⟨S12, .f32⟩
  | .hbm, ⟨40, _⟩ => ⟨S12, .f32⟩
  | .hbm, ⟨41, _⟩ => ⟨S12x1x1, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S12, .f32⟩
  | .hbm, ⟨46, _⟩ => ⟨S12, .f32⟩
  | .hbm, ⟨47, _⟩ => ⟨S12x1x1x1, .f32⟩
  | .hbm, ⟨48, _⟩ => ⟨S12x12x3x3, .f32⟩
  | .hbm, ⟨49, _⟩ => ⟨S12x12x3x3, .f32⟩
  | .hbm, ⟨50, _⟩ => ⟨S12x3x3x12, .f32⟩
  | .hbm, ⟨51, _⟩ => ⟨S12x108, .f32⟩
  | .hbm, ⟨52, _⟩ => ⟨S12, .f32⟩
  | .hbm, ⟨53, _⟩ => ⟨S12, .f32⟩
  | .hbm, ⟨54, _⟩ => ⟨S12x1x1, .f32⟩
  | .hbm, ⟨55, _⟩ => ⟨S16x1, .f32⟩
  | .hbm, ⟨56, _⟩ => ⟨S16x128, .i32⟩
  | .hbm, ⟨57, _⟩ => ⟨S16x128, .f32⟩
  | .hbm, ⟨58, _⟩ => ⟨S16x128, .f32⟩
  | .hbm, ⟨59, _⟩ => ⟨S128x16, .f32⟩
  | .hbm, ⟨60, _⟩ => ⟨S128x16, .f32⟩
  | .local _ .vmem, ⟨0, _⟩ => ⟨S1x3x224x224, .f32⟩
  | .local _ .vmem, ⟨1, _⟩ => ⟨S1x3x224x224, .f32⟩
  | .local _ .vmem, ⟨2, _⟩ => ⟨S16x128, .i32⟩
  | .local _ .vmem, ⟨3, _⟩ => ⟨S6x27, .f32⟩
  | .local _ .vmem, ⟨4, _⟩ => ⟨S6x1x1, .f32⟩
  | .local _ .vmem, ⟨5, _⟩ => ⟨S12x54, .f32⟩
  | .local _ .vmem, ⟨6, _⟩ => ⟨S12x1x1, .f32⟩
  | .local _ .vmem, ⟨7, _⟩ => ⟨S12x108, .f32⟩
  | .local _ .vmem, ⟨8, _⟩ => ⟨S12x1x1, .f32⟩
  | .local _ .vmem, ⟨9, _⟩ => ⟨S16x12, .f32⟩
  | .local _ .vmem, ⟨10, _⟩ => ⟨S16x1, .f32⟩
  | .local _ .vmem, ⟨11, _⟩ => ⟨S16x128, .f32⟩
  | .local _ .vmem, ⟨12, _⟩ => ⟨S16x128, .f32⟩
  | .local _ .vmem, ⟨13, _⟩ => ⟨S3x226x256, .f32⟩
  | .local _ .vmem, ⟨14, _⟩ => ⟨S6x226x256, .f32⟩
  | .local _ .vmem, ⟨15, _⟩ => ⟨S12x226x256, .f32⟩
  | .local _ .vmem, ⟨16, _⟩ => ⟨S12x128, .f32⟩
  | _, _ => ⟨S128x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38_0 : Ref sig .tc := ⟨.hbm, 57, rfl⟩
abbrev main_v38_1 : Ref sig .tc := ⟨.hbm, 58, rfl⟩
abbrev main_v39 : Ref sig .tc := ⟨.hbm, 59, rfl⟩
abbrev main_v40 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v129 : BitVec 1 := Scalar.cmpi .eq arg0 c127_i32
  let v130 : BitVec 32 := Scalar.extui v129
  let c0_i32_48 : BitVec 32 := 0#32
  let v131 : BitVec 1 := Scalar.cmpi .ne v130 c0_i32_48
  v131

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x27 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x54 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x108 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S12x1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "inv_hw" => some ((1 / 50176 : ℝ) : EReal)
  | _ => none
-- ==== ReferenceIdeal.lean ====
abbrev S128x3x224x224 : Shape := ⟨4, ![128, 3, 224, 224]⟩
abbrev S128x16 : Shape := ⟨2, ![128, 16]⟩
abbrev S6x3x3x3 : Shape := ⟨4, ![6, 3, 3, 3]⟩
abbrev S6 : Shape := ⟨1, ![6]⟩
abbrev S12x6x3x3 : Shape := ⟨4, ![12, 6, 3, 3]⟩
abbrev S12 : Shape := ⟨1, ![12]⟩
abbrev S12x12x3x3 : Shape := ⟨4, ![12, 12, 3, 3]⟩
abbrev S16x12 : Shape := ⟨2, ![16, 12]⟩
abbrev S16 : Shape := ⟨1, ![16]⟩
abbrev S_ : Shape := ⟨0, ![]⟩
abbrev S128x3x226x226 : Shape := ⟨4, ![128, 3, 226, 226]⟩
abbrev S128x6x224x224 : Shape := ⟨4, ![128, 6, 224, 224]⟩
abbrev S6x3x1x1 : Shape := ⟨4, ![6, 3, 1, 1]⟩
abbrev S6x3 : Shape := ⟨2, ![6, 3]⟩
abbrev S128x224x224x6 : Shape := ⟨4, ![128, 224, 224, 6]⟩
abbrev S1x6x1x1 : Shape := ⟨4, ![1, 6, 1, 1]⟩
abbrev S128x6x226x226 : Shape := ⟨4, ![128, 6, 226, 226]⟩
abbrev S128x12x224x224 : Shape := ⟨4, ![128, 12, 224, 224]⟩
abbrev S12x6x1x1 : Shape := ⟨4, ![12, 6, 1, 1]⟩
abbrev S12x6 : Shape := ⟨2, ![12, 6]⟩
abbrev S128x224x224x12 : Shape := ⟨4, ![128, 224, 224, 12]⟩
abbrev S1x12x1x1 : Shape := ⟨4, ![1, 12, 1, 1]⟩
abbrev S128x12x226x226 : Shape := ⟨4, ![128, 12, 226, 226]⟩
abbrev S12x12x1x1 : Shape := ⟨4, ![12, 12, 1, 1]⟩
abbrev S12x12 : Shape := ⟨2, ![12, 12]⟩
abbrev S128x12 : Shape := ⟨2, ![128, 12]⟩
abbrev S12x16 : Shape := ⟨2, ![12, 16]⟩
abbrev S1x16 : Shape := ⟨2, ![1, 16]⟩
abbrev S128 : Shape := ⟨1, ![128]⟩
abbrev S128x1 : Shape := ⟨2, ![128, 1]⟩
abbrev S128x2 : Shape := ⟨2, ![128, 2]⟩
abbrev S128x2x1 : Shape := ⟨3, ![128, 2, 1]⟩
abbrev S128x2x2 : Shape := ⟨3, ![128, 2, 2]⟩

abbrev nBuf : Space → Nat
  | .hbm => 314
  | .vmem => 0
  | .smem => 0
  | _ => 0

abbrev hbmTy0_0 (i : Nat) : BufTy := match i % 128 with
  | 0 => ⟨S128x3x224x224, .f32⟩
  | 1 => ⟨S128x16, .i32⟩
  | 2 => ⟨S6x3x3x3, .f32⟩
  | 3 => ⟨S6, .f32⟩
  | 4 => ⟨S6, .f32⟩
  | 5 => ⟨S6, .f32⟩
  | 6 => ⟨S12x6x3x3, .f32⟩
  | 7 => ⟨S12, .f32⟩
  | 8 => ⟨S12, .f32⟩
  | 9 => ⟨S12, .f32⟩
  | 10 => ⟨S12x12x3x3, .f32⟩
  | 11 => ⟨S12, .f32⟩
  | 12 => ⟨S12, .f32⟩
  | 13 => ⟨S12, .f32⟩
  | 14 => ⟨S16x12, .f32⟩
  | 15 => ⟨S16, .f32⟩
  | 16 => ⟨S_, .i32⟩
  | 17 => ⟨S_, .f32⟩
  | 18 => ⟨S128x3x226x226, .f32⟩
  | 19 => ⟨S_, .f32⟩
  | 20 => ⟨S128x6x224x224, .f32⟩
  | 21 => ⟨S6x3x1x1, .f32⟩
  | 22 => ⟨S6x3, .f32⟩
  | 23 => ⟨S128x3x224x224, .f32⟩
  | 24 => ⟨S128x224x224x6, .f32⟩
  | 25 => ⟨S128x6x224x224, .f32⟩
  | 26 => ⟨S128x6x224x224, .f32⟩
  | 27 => ⟨S6x3x1x1, .f32⟩
  | 28 => ⟨S6x3, .f32⟩
  | 29 => ⟨S128x3x224x224, .f32⟩
  | 30 => ⟨S128x224x224x6, .f32⟩
  | 31 => ⟨S128x6x224x224, .f32⟩
  | 32 => ⟨S128x6x224x224, .f32⟩
  | 33 => ⟨S6x3x1x1, .f32⟩
  | 34 => ⟨S6x3, .f32⟩
  | 35 => ⟨S128x3x224x224, .f32⟩
  | 36 => ⟨S128x224x224x6, .f32⟩
  | 37 => ⟨S128x6x224x224, .f32⟩
  | 38 => ⟨S128x6x224x224, .f32⟩
  | 39 => ⟨S6x3x1x1, .f32⟩
  | 40 => ⟨S6x3, .f32⟩
  | 41 => ⟨S128x3x224x224, .f32⟩
  | 42 => ⟨S128x224x224x6, .f32⟩
  | 43 => ⟨S128x6x224x224, .f32⟩
  | 44 => ⟨S128x6x224x224, .f32⟩
  | 45 => ⟨S6x3x1x1, .f32⟩
  | 46 => ⟨S6x3, .f32⟩
  | 47 => ⟨S128x3x224x224, .f32⟩
  | 48 => ⟨S128x224x224x6, .f32⟩
  | 49 => ⟨S128x6x224x224, .f32⟩
  | 50 => ⟨S128x6x224x224, .f32⟩
  | 51 => ⟨S6x3x1x1, .f32⟩
  | 52 => ⟨S6x3, .f32⟩
  | 53 => ⟨S128x3x224x224, .f32⟩
  | 54 => ⟨S128x224x224x6, .f32⟩
  | 55 => ⟨S128x6x224x224, .f32⟩
  | 56 => ⟨S128x6x224x224, .f32⟩
  | 57 => ⟨S6x3x1x1, .f32⟩
  | 58 => ⟨S6x3, .f32⟩
  | 59 => ⟨S128x3x224x224, .f32⟩
  | 60 => ⟨S128x224x224x6, .f32⟩
  | 61 => ⟨S128x6x224x224, .f32⟩
  | 62 => ⟨S128x6x224x224, .f32⟩
  | 63 => ⟨S6x3x1x1, .f32⟩
  | 64 => ⟨S6x3, .f32⟩
  | 65 => ⟨S128x3x224x224, .f32⟩
  | 66 => ⟨S128x224x224x6, .f32⟩
  | 67 => ⟨S128x6x224x224, .f32⟩
  | 68 => ⟨S128x6x224x224, .f32⟩
  | 69 => ⟨S6x3x1x1, .f32⟩
  | 70 => ⟨S6x3, .f32⟩
  | 71 => ⟨S128x3x224x224, .f32⟩
  | 72 => ⟨S128x224x224x6, .f32⟩
  | 73 => ⟨S128x6x224x224, .f32⟩
  | 74 => ⟨S128x6x224x224, .f32⟩
  | 75 => ⟨S1x6x1x1, .f32⟩
  | 76 => ⟨S128x6x224x224, .f32⟩
  | 77 => ⟨S128x6x224x224, .f32⟩
  | 78 => ⟨S_, .f32⟩
  | 79 => ⟨S_, .f32⟩
  | 80 => ⟨S_, .f32⟩
  | 81 => ⟨S6, .f32⟩
  | 82 => ⟨S6, .f32⟩
  | 83 => ⟨S1x6x1x1, .f32⟩
  | 84 => ⟨S128x6x224x224, .f32⟩
  | 85 => ⟨S128x6x224x224, .f32⟩
  | 86 => ⟨S1x6x1x1, .f32⟩
  | 87 => ⟨S128x6x224x224, .f32⟩
  | 88 => ⟨S128x6x224x224, .f32⟩
  | 89 => ⟨S_, .f32⟩
  | 90 => ⟨S128x6x224x224, .f32⟩
  | 91 => ⟨S128x6x224x224, .f32⟩
  | 92 => ⟨S_, .i32⟩
  | 93 => ⟨S_, .f32⟩
  | 94 => ⟨S128x6x226x226, .f32⟩
  | 95 => ⟨S_, .f32⟩
  | 96 => ⟨S128x12x224x224, .f32⟩
  | 97 => ⟨S12x6x1x1, .f32⟩
  | 98 => ⟨S12x6, .f32⟩
  | 99 => ⟨S128x6x224x224, .f32⟩
  | 100 => ⟨S128x224x224x12, .f32⟩
  | 101 => ⟨S128x12x224x224, .f32⟩
  | 102 => ⟨S128x12x224x224, .f32⟩
  | 103 => ⟨S12x6x1x1, .f32⟩
  | 104 => ⟨S12x6, .f32⟩
  | 105 => ⟨S128x6x224x224, .f32⟩
  | 106 => ⟨S128x224x224x12, .f32⟩
  | 107 => ⟨S128x12x224x224, .f32⟩
  | 108 => ⟨S128x12x224x224, .f32⟩
  | 109 => ⟨S12x6x1x1, .f32⟩
  | 110 => ⟨S12x6, .f32⟩
  | 111 => ⟨S128x6x224x224, .f32⟩
  | 112 => ⟨S128x224x224x12, .f32⟩
  | 113 => ⟨S128x12x224x224, .f32⟩
  | 114 => ⟨S128x12x224x224, .f32⟩
  | 115 => ⟨S12x6x1x1, .f32⟩
  | 116 => ⟨S12x6, .f32⟩
  | 117 => ⟨S128x6x224x224, .f32⟩
  | 118 => ⟨S128x224x224x12, .f32⟩
  | 119 => ⟨S128x12x224x224, .f32⟩
  | 120 => ⟨S128x12x224x224, .f32⟩
  | 121 => ⟨S12x6x1x1, .f32⟩
  | 122 => ⟨S12x6, .f32⟩
  | 123 => ⟨S128x6x224x224, .f32⟩
  | 124 => ⟨S128x224x224x12, .f32⟩
  | 125 => ⟨S128x12x224x224, .f32⟩
  | 126 => ⟨S128x12x224x224, .f32⟩
  | 127 => ⟨S12x6x1x1, .f32⟩
  | _ => ⟨S128x3x224x224, .f32⟩

abbrev hbmTy0_1 (i : Nat) : BufTy := match i % 128 with
  | 0 => ⟨S12x6, .f32⟩
  | 1 => ⟨S128x6x224x224, .f32⟩
  | 2 => ⟨S128x224x224x12, .f32⟩
  | 3 => ⟨S128x12x224x224, .f32⟩
  | 4 => ⟨S128x12x224x224, .f32⟩
  | 5 => ⟨S12x6x1x1, .f32⟩
  | 6 => ⟨S12x6, .f32⟩
  | 7 => ⟨S128x6x224x224, .f32⟩
  | 8 => ⟨S128x224x224x12, .f32⟩
  | 9 => ⟨S128x12x224x224, .f32⟩
  | 10 => ⟨S128x12x224x224, .f32⟩
  | 11 => ⟨S12x6x1x1, .f32⟩
  | 12 => ⟨S12x6, .f32⟩
  | 13 => ⟨S128x6x224x224, .f32⟩
  | 14 => ⟨S128x224x224x12, .f32⟩
  | 15 => ⟨S128x12x224x224, .f32⟩
  | 16 => ⟨S128x12x224x224, .f32⟩
  | 17 => ⟨S12x6x1x1, .f32⟩
  | 18 => ⟨S12x6, .f32⟩
  | 19 => ⟨S128x6x224x224, .f32⟩
  | 20 => ⟨S128x224x224x12, .f32⟩
  | 21 => ⟨S128x12x224x224, .f32⟩
  | 22 => ⟨S128x12x224x224, .f32⟩
  | 23 => ⟨S1x12x1x1, .f32⟩
  | 24 => ⟨S128x12x224x224, .f32⟩
  | 25 => ⟨S128x12x224x224, .f32⟩
  | 26 => ⟨S_, .f32⟩
  | 27 => ⟨S_, .f32⟩
  | 28 => ⟨S_, .f32⟩
  | 29 => ⟨S12, .f32⟩
  | 30 => ⟨S12, .f32⟩
  | 31 => ⟨S1x12x1x1, .f32⟩
  | 32 => ⟨S128x12x224x224, .f32⟩
  | 33 => ⟨S128x12x224x224, .f32⟩
  | 34 => ⟨S1x12x1x1, .f32⟩
  | 35 => ⟨S128x12x224x224, .f32⟩
  | 36 => ⟨S128x12x224x224, .f32⟩
  | 37 => ⟨S_, .f32⟩
  | 38 => ⟨S128x12x224x224, .f32⟩
  | 39 => ⟨S128x12x224x224, .f32⟩
  | 40 => ⟨S_, .i32⟩
  | 41 => ⟨S_, .f32⟩
  | 42 => ⟨S128x12x226x226, .f32⟩
  | 43 => ⟨S_, .f32⟩
  | 44 => ⟨S128x12x224x224, .f32⟩
  | 45 => ⟨S12x12x1x1, .f32⟩
  | 46 => ⟨S12x12, .f32⟩
  | 47 => ⟨S128x12x224x224, .f32⟩
  | 48 => ⟨S128x224x224x12, .f32⟩
  | 49 => ⟨S128x12x224x224, .f32⟩
  | 50 => ⟨S128x12x224x224, .f32⟩
  | 51 => ⟨S12x12x1x1, .f32⟩
  | 52 => ⟨S12x12, .f32⟩
  | 53 => ⟨S128x12x224x224, .f32⟩
  | 54 => ⟨S128x224x224x12, .f32⟩
  | 55 => ⟨S128x12x224x224, .f32⟩
  | 56 => ⟨S128x12x224x224, .f32⟩
  | 57 => ⟨S12x12x1x1, .f32⟩
  | 58 => ⟨S12x12, .f32⟩
  | 59 => ⟨S128x12x224x224, .f32⟩
  | 60 => ⟨S128x224x224x12, .f32⟩
  | 61 => ⟨S128x12x224x224, .f32⟩
  | 62 => ⟨S128x12x224x224, .f32⟩
  | 63 => ⟨S12x12x1x1, .f32⟩
  | 64 => ⟨S12x12, .f32⟩
  | 65 => ⟨S128x12x224x224, .f32⟩
  | 66 => ⟨S128x224x224x12, .f32⟩
  | 67 => ⟨S128x12x224x224, .f32⟩
  | 68 => ⟨S128x12x224x224, .f32⟩
  | 69 => ⟨S12x12x1x1, .f32⟩
  | 70 => ⟨S12x12, .f32⟩
  | 71 => ⟨S128x12x224x224, .f32⟩
  | 72 => ⟨S128x224x224x12, .f32⟩
  | 73 => ⟨S128x12x224x224, .f32⟩
  | 74 => ⟨S128x12x224x224, .f32⟩
  | 75 => ⟨S12x12x1x1, .f32⟩
  | 76 => ⟨S12x12, .f32⟩
  | 77 => ⟨S128x12x224x224, .f32⟩
  | 78 => ⟨S128x224x224x12, .f32⟩
  | 79 => ⟨S128x12x224x224, .f32⟩
  | 80 => ⟨S128x12x224x224, .f32⟩
  | 81 => ⟨S12x12x1x1, .f32⟩
  | 82 => ⟨S12x12, .f32⟩
  | 83 => ⟨S128x12x224x224, .f32⟩
  | 84 => ⟨S128x224x224x12, .f32⟩
  | 85 => ⟨S128x12x224x224, .f32⟩
  | 86 => ⟨S128x12x224x224, .f32⟩
  | 87 => ⟨S12x12x1x1, .f32⟩
  | 88 => ⟨S12x12, .f32⟩
  | 89 => ⟨S128x12x224x224, .f32⟩
  | 90 => ⟨S128x224x224x12, .f32⟩
  | 91 => ⟨S128x12x224x224, .f32⟩
  | 92 => ⟨S128x12x224x224, .f32⟩
  | 93 => ⟨S12x12x1x1, .f32⟩
  | 94 => ⟨S12x12, .f32⟩
  | 95 => ⟨S128x12x224x224, .f32⟩
  | 96 => ⟨S128x224x224x12, .f32⟩
  | 97 => ⟨S128x12x224x224, .f32⟩
  | 98 => ⟨S128x12x224x224, .f32⟩
  | 99 => ⟨S1x12x1x1, .f32⟩
  | 100 => ⟨S128x12x224x224, .f32⟩
  | 101 => ⟨S128x12x224x224, .f32⟩
  | 102 => ⟨S_, .f32⟩
  | 103 => ⟨S_, .f32⟩
  | 104 => ⟨S_, .f32⟩
  | 105 => ⟨S12, .f32⟩
  | 106 => ⟨S12, .f32⟩
  | 107 => ⟨S1x12x1x1, .f32⟩
  | 108 => ⟨S128x12x224x224, .f32⟩
  | 109 => ⟨S128x12x224x224, .f32⟩
  | 110 => ⟨S1x12x1x1, .f32⟩
  | 111 => ⟨S128x12x224x224, .f32⟩
  | 112 => ⟨S128x12x224x224, .f32⟩
  | 113 => ⟨S_, .f32⟩
  | 114 => ⟨S128x12x224x224, .f32⟩
  | 115 => ⟨S128x12x224x224, .f32⟩
  | 116 => ⟨S_, .f32⟩
  | 117 => ⟨S128x12, .f32⟩
  | 118 => ⟨S_, .f32⟩
  | 119 => ⟨S128x12, .f32⟩
  | 120 => ⟨S128x12, .f32⟩
  | 121 => ⟨S12x16, .f32⟩
  | 122 => ⟨S128x16, .f32⟩
  | 123 => ⟨S1x16, .f32⟩
  | 124 => ⟨S128x16, .f32⟩
  | 125 => ⟨S128x16, .f32⟩
  | 126 => ⟨S_, .i32⟩
  | 127 => ⟨S128x16, .i32⟩
  | _ => ⟨S128x3x224x224, .f32⟩

abbrev hbmTy0_2 (i : Nat) : BufTy := match i % 128 with
  | 0 => ⟨S128x16, .i1⟩
  | 1 => ⟨S_, .f32⟩
  | 2 => ⟨S_, .f32⟩
  | 3 => ⟨S128x16, .f32⟩
  | 4 => ⟨S128x16, .f32⟩
  | 5 => ⟨S_, .f32⟩
  | 6 => ⟨S128, .f32⟩
  | 7 => ⟨S_, .f32⟩
  | 8 => ⟨S128, .f32⟩
  | 9 => ⟨S128, .f32⟩
  | 10 => ⟨S128x1, .f32⟩
  | 11 => ⟨S128x16, .f32⟩
  | 12 => ⟨S128x16, .f32⟩
  | 13 => ⟨S128x16, .f32⟩
  | 14 => ⟨S_, .f32⟩
  | 15 => ⟨S128, .f32⟩
  | 16 => ⟨S128x1, .f32⟩
  | 17 => ⟨S128x16, .f32⟩
  | 18 => ⟨S128x16, .f32⟩
  | 19 => ⟨S128x2, .f32⟩
  | 20 => ⟨S128x2, .i32⟩
  | 21 => ⟨S_, .f32⟩
  | 22 => ⟨S128, .f32⟩
  | 23 => ⟨S_, .f32⟩
  | 24 => ⟨S128, .f32⟩
  | 25 => ⟨S128, .f32⟩
  | 26 => ⟨S128x1, .f32⟩
  | 27 => ⟨S128x2, .f32⟩
  | 28 => ⟨S128x2, .f32⟩
  | 29 => ⟨S128x2, .f32⟩
  | 30 => ⟨S_, .f32⟩
  | 31 => ⟨S128, .f32⟩
  | 32 => ⟨S128x1, .f32⟩
  | 33 => ⟨S128x2, .f32⟩
  | 34 => ⟨S128x2, .f32⟩
  | 35 => ⟨S128, .i32⟩
  | 36 => ⟨S128x1, .i32⟩
  | 37 => ⟨S_, .f32⟩
  | 38 => ⟨S128x16, .f32⟩
  | 39 => ⟨S_, .i32⟩
  | 40 => ⟨S128x1, .i32⟩
  | 41 => ⟨S128x1, .i1⟩
  | 42 => ⟨S_, .i32⟩
  | 43 => ⟨S128x1, .i32⟩
  | 44 => ⟨S128x1, .i32⟩
  | 45 => ⟨S128x1, .i32⟩
  | 46 => ⟨S_, .i32⟩
  | 47 => ⟨S128x2, .i32⟩
  | 48 => ⟨S128x2, .i1⟩
  | 49 => ⟨S_, .i32⟩
  | 50 => ⟨S128x2, .i32⟩
  | 51 => ⟨S128x2, .i32⟩
  | 52 => ⟨S128x2, .i32⟩
  | 53 => ⟨S128x2, .i32⟩
  | 54 => ⟨S128x2x1, .i32⟩
  | 55 => ⟨S128x2x1, .i32⟩
  | 56 => ⟨S128x2x2, .i32⟩
  | 57 => ⟨S128x16, .f32⟩
  | _ => ⟨S128x3x224x224, .f32⟩

abbrev hbmTy (i : Nat) : BufTy := match i / 128 with
  | 0 => hbmTy0_0 i
  | 1 => hbmTy0_1 i
  | 2 => hbmTy0_2 i
  | _ => ⟨S128x3x224x224, .f32⟩

abbrev bufTy : (tb : Table) → Fin (tcTables nBuf tb) → BufTy
  | .hbm, ⟨i, _⟩ => hbmTy i
  | _, _ => ⟨S128x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_call0_v0 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_0 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_call1_cst : Ref sig .tc := ⟨.hbm, 89, rfl⟩
abbrev main_call1_v0 : Ref sig .tc := ⟨.hbm, 90, rfl⟩
abbrev main_v69 : Ref sig .tc := ⟨.hbm, 91, rfl⟩
abbrev main_c_1 : Ref sig .tc := ⟨.hbm, 92, rfl⟩
abbrev main_call2_v0 : Ref sig .tc := ⟨.hbm, 93, rfl⟩
abbrev main_v70 : Ref sig .tc := ⟨.hbm, 94, rfl⟩
abbrev main_cst_2 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_cst_3 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_call3_cst : Ref sig .tc := ⟨.hbm, 165, rfl⟩
abbrev main_call3_v0 : Ref sig .tc := ⟨.hbm, 166, rfl⟩
abbrev main_v139 : Ref sig .tc := ⟨.hbm, 167, rfl⟩
abbrev main_c_4 : Ref sig .tc := ⟨.hbm, 168, rfl⟩
abbrev main_call4_v0 : Ref sig .tc := ⟨.hbm, 169, rfl⟩
abbrev main_v140 : Ref sig .tc := ⟨.hbm, 170, rfl⟩
abbrev main_cst_5 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_cst_6 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_call5_cst : Ref sig .tc := ⟨.hbm, 241, rfl⟩
abbrev main_call5_v0 : Ref sig .tc := ⟨.hbm, 242, rfl⟩
abbrev main_v209 : Ref sig .tc := ⟨.hbm, 243, rfl⟩
abbrev main_cst_7 : Ref sig .tc := ⟨.hbm, 244, rfl⟩
abbrev main_v210 : Ref sig .tc := ⟨.hbm, 245, rfl⟩
abbrev main_cst_8 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_c_9 : Ref sig .tc := ⟨.hbm, 254, rfl⟩
abbrev main_v218 : Ref sig .tc := ⟨.hbm, 255, rfl⟩
abbrev main_v219 : Ref sig .tc := ⟨.hbm, 256, rfl⟩
abbrev main_cst_10 : Ref sig .tc := ⟨.hbm, 257, rfl⟩
abbrev main_call6_v0 : Ref sig .tc := ⟨.hbm, 258, rfl⟩
abbrev main_call6_v1 : Ref sig .tc := ⟨.hbm, 259, rfl⟩
abbrev main_v220 : Ref sig .tc := ⟨.hbm, 260, rfl⟩
abbrev main_cst_11 : Ref sig .tc := ⟨.hbm, 261, rfl⟩
abbrev main_v221 : Ref sig .tc := ⟨.hbm, 262, rfl⟩
abbrev main_cst_12 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_cst_13 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_values : Ref sig .tc := ⟨.hbm, 275, rfl⟩
abbrev main_indices : Ref sig .tc := ⟨.hbm, 276, rfl⟩
abbrev main_cst_14 : Ref sig .tc := ⟨.hbm, 277, rfl⟩
abbrev main_v232 : Ref sig .tc := ⟨.hbm, 278, rfl⟩
abbrev main_cst_15 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_cst_16 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_cst_17 : Ref sig .tc := ⟨.hbm, 293, rfl⟩
abbrev main_v245 : Ref sig .tc := ⟨.hbm, 294, rfl⟩
abbrev main_c_18 : Ref sig .tc := ⟨.hbm, 295, rfl⟩
abbrev main_v246 : Ref sig .tc := ⟨.hbm, 296, rfl⟩
abbrev main_v247 : Ref sig .tc := ⟨.hbm, 297, rfl⟩
abbrev main_c_19 : Ref sig .tc := ⟨.hbm, 298, rfl⟩
abbrev main_v248 : Ref sig .tc := ⟨.hbm, 299, rfl⟩
abbrev main_v249 : Ref sig .tc := ⟨.hbm, 300, rfl⟩
abbrev main_v250 : Ref sig .tc := ⟨.hbm, 301, rfl⟩
abbrev main_c_20 : Ref sig .tc := ⟨.hbm, 302, rfl⟩
abbrev main_v251 : Ref sig .tc := ⟨.hbm, 303, rfl⟩
abbrev main_v252 : Ref sig .tc := ⟨.hbm, 304, rfl⟩
abbrev main_c_21 : Ref sig .tc := ⟨.hbm, 305, rfl⟩
abbrev main_v253 : Ref sig .tc := ⟨.hbm, 306, rfl⟩
abbrev main_v254 : Ref sig .tc := ⟨.hbm, 307, rfl⟩
abbrev main_v255 : Ref sig .tc := ⟨.hbm, 308, rfl⟩
abbrev main_v256 : Ref sig .tc := ⟨.hbm, 309, rfl⟩
abbrev main_v257 : Ref sig .tc := ⟨.hbm, 310, rfl⟩
abbrev main_v258 : Ref sig .tc := ⟨.hbm, 311, rfl⟩
abbrev main_v259 : Ref sig .tc := ⟨.hbm, 312, rfl⟩
abbrev main_v260 : Ref sig .tc := ⟨.hbm, 313, rfl⟩

abbrev nD : Nat := 1
abbrev τ : Topo := Topo.v7x

variable {F : FTy → Type} [FloatOps F]
-- ==== Proof.Frames.lean ====
/- The frames of the three programs, and what the idealized kernel's one rewritten constant preserves. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent
public import Idealize.ShloMosaic.Adequacy

@[expose] public section

noncomputable section

namespace Cert.Proof.Frames

open Idealize.ShloMosaic Idealize.SL.Sem

/-- The reference runs from every memory, leaves its arguments unchanged and every counter at zero. -/
theorem frame_reference : Cert.quiescent_ReferenceIdeal (hReferenceIdeal := Cert.ReferenceIdeal.Gen.facts) := fun m ρ _ =>
  (θ_run Cert.ReferenceIdeal.defs _ _).mono
    (fun _ h => ⟨fun c => (h c).2.2, sem_eq_zero_of_no_sems (by decide) _⟩)
    (Cert.ReferenceIdeal.Value.run (F := Ideal) m ρ)

/-- The named constant is the reciprocal of the number of pixels of one image. -/
theorem preserves : Cert.preserves_Kernel_KernelIdeal :=
  IdealRules.named_const.statement Cert.KernelIdeal.κ "inv_hw" .f32 0x37A72F05#32 _ rfl

end Cert.Proof.Frames

end
-- ==== Proof.KCase.lean ====
/-
  What one point of the grid leaves in the scratch buffers and in the outputs, as values.
-/
module

public import proofs.«01_k».proof.Proof.Gen.KernelIdeal.Frame
public import Idealize.ShloMosaic.Lib.Pipeline.Value
public import Idealize.ShloMosaic.Lib.Tactic

@[expose] public section

noncomputable section

open Idealize Idealize.ShloMosaic Idealize.ShloMosaic.Pipeline Idealize.SL
open Cert.KernelIdeal Cert.KernelIdeal.Gen

namespace Cert.Proof.KCase

local instance : Cert.KernelIdeal.Facts := Cert.KernelIdeal.Gen.facts

variable {F : FTy → Type} [FloatOps F] [Named F]

/-- Storing a block into the inside of the first scratch buffer. -/
def fill0 (old : Vec F S3x226x256 .f32) (w : Vec F S3x224x224 .f32) : Vec F S3x226x256 .f32 :=
  (Rect.unit (s := S3x226x256) ![0, 1, 1] S3x224x224.size inb_S3x226x256_S3x224x224_0_1_1).overlay old w

/-- Storing a block into the inside of the second scratch buffer. -/
def fill1 (old : Vec F S6x226x256 .f32) (w : Vec F S6x224x224 .f32) : Vec F S6x226x256 .f32 :=
  (Rect.unit (s := S6x226x256) ![0, 1, 1] S6x224x224.size inb_S6x226x256_S6x224x224_0_1_1).overlay old w

/-- Storing a block into the inside of the third scratch buffer. -/
def fill2 (old : Vec F S12x226x256 .f32) (w : Vec F S12x224x224 .f32) : Vec F S12x226x256 .f32 :=
  (Rect.unit (s := S12x226x256) ![0, 1, 1] S12x224x224.size inb_S12x226x256_S12x224x224_0_1_1).overlay old w

/-- The zero a rectifier compares with. -/
abbrev z0 : F .f32 := Scalar.ofBits .f32 0x00000000#32

/-- The first scratch buffer after a point. -/
def next0 (x0 : Vec F S1x3x224x224 .f32) (xs0 : Vec F S3x226x256 .f32) : Vec F S3x226x256 .f32 := fill0 xs0 (k0_pay15 x0)

/-- The second scratch buffer after a point. -/
def next1 (x2 : Vec F S6x27 .f32) (x3 : Vec F S6x1x1 .f32) (s0 : Vec F S3x226x256 .f32) (xs1 : Vec F S6x226x256 .f32) :
    Vec F S6x226x256 .f32 := fill1 xs1 (k0_pay17 (k0_pay16 s0 x2 x3) z0)

/-- The third scratch buffer after a point. -/
def next2 (x4 : Vec F S12x54 .f32) (x5 : Vec F S12x1x1 .f32) (s1 : Vec F S6x226x256 .f32) (xs2 : Vec F S12x226x256 .f32) :
    Vec F S12x226x256 .f32 := fill2 xs2 (k0_pay18 s1 x4 x5)

/-- The channel means after a point. -/
def next3 (n : BitVec 32) (x6 : Vec F S12x108 .f32) (x7 : Vec F S12x1x1 .f32) (s2 : Vec F S12x226x256 .f32) (xs3 : Vec F S12x128 .f32) :
    Vec F S12x128 .f32 := k0_pay1 xs3 (k0_pay19 n s2 x6 x7)

/-- The routing weights computed from the gate matrix, the channel means, the mask and the bias. -/
def weights (v132 : Vec F S16x12 .f32) (v133 : Vec F S12x128 .f32) (v135 : Vec F S16x128 .i32) (v139 : Vec F S16x1 .f32) : FVec F S16x128 .f32 :=
  k0_pay2 (k0_pay4 v132 v133 v135 v139) (iota Kind.tc S16x128 32 [0] iota_S16x128_d0_w32) (k0_pay6 v132 v133 v135 v139)
    (k0_pay8 v132 v133 v135 v139) (k0_pay9 v132 v133 v135 v139) k0_pay10

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What a list of stores leaves: the last store over what the earlier ones left. -/
theorem read_writes_cons {sig : RefSig} {κ : Kind} {sp : Space} {s : Shape} {e : EltTy} {Val : EltTy → Type} (v : View sig κ sp s e)
    (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [View.writes_cons, View.read_slice_write_of_not_mem r _ _ _ (by rwa [Rect.map_emb_univ]), r.overlay_of_not_mem _ _ hy]

/-- Storing a whole buffer leaves what is stored. -/
theorem overlay_whole {S : Shape} {α : Type} {off : Fin S.rank → Nat} (h : off = fun _ => 0)
    (inb : ∀ a, off a + S.size a ≤ S.size a) (old w : S.Idx → α) : (Rect.unit off S.size inb).overlay old w = w := by
  subst h; funext y
  have e := (Rect.whole S).overlay_emb old w y
  rw [Rect.emb_whole_apply] at e
  exact e

/-- A covered load reads what the stores left. -/
theorem readCov_ld {sig : RefSig} {κ : Kind} {sp : Space} {s : Shape} {e : EltTy} {Val : EltTy → Type} [∀ e, Nonempty (Val e)]
    (v : View sig κ sp s e) (L : List (View.Piece Val s e)) (r : Rect s) :
    v.readCov L r.toLoadRect = View.ld (View.canon L) r := View.readCov_eq_canon' v L r

section

variable (c : Dev nD) (i : grid0.Coords)
  (arg1 : Memref sig .tc .vmem S1x3x224x224 .f32) (harg1 : arg1.IsWhole)
  (arg2 : Memref sig .tc .vmem S16x128 .i32) (harg2 : arg2.IsWhole)
  (arg3 : Memref sig .tc .vmem S6x27 .f32) (harg3 : arg3.IsWhole)
  (arg4 : Memref sig .tc .vmem S6x1x1 .f32) (harg4 : arg4.IsWhole)
  (arg5 : Memref sig .tc .vmem S12x54 .f32) (harg5 : arg5.IsWhole)
  (arg6 : Memref sig .tc .vmem S12x1x1 .f32) (harg6 : arg6.IsWhole)
  (arg7 : Memref sig .tc .vmem S12x108 .f32) (harg7 : arg7.IsWhole)
  (arg8 : Memref sig .tc .vmem S12x1x1 .f32) (harg8 : arg8.IsWhole)
  (arg9 : Memref sig .tc .vmem S16x12 .f32) (harg9 : arg9.IsWhole)
  (arg10 : Memref sig .tc .vmem S16x1 .f32) (harg10 : arg10.IsWhole)
  (arg11 : Memref sig .tc .vmem S16x128 .f32) (harg11 : arg11.IsWhole)
  (arg12 : Memref sig .tc .vmem S16x128 .f32) (harg12 : arg12.IsWhole)
  (arg13 : Memref sig .tc .vmem S3x226x256 .f32) (harg13 : arg13.IsWhole)
  (arg14 : Memref sig .tc .vmem S6x226x256 .f32) (harg14 : arg14.IsWhole)
  (arg15 : Memref sig .tc .vmem S12x226x256 .f32) (harg15 : arg15.IsWhole)
  (arg16 : Memref sig .tc .vmem S12x128 .f32) (harg16 : arg16.IsWhole)
  (x0 : Vec F S1x3x224x224 .f32) (x1 : Vec F S16x128 .i32) (x2 : Vec F S6x27 .f32) (x3 : Vec F S6x1x1 .f32) (x4 : Vec F S12x54 .f32)
  (x5 : Vec F S12x1x1 .f32) (x6 : Vec F S12x108 .f32) (x7 : Vec F S12x1x1 .f32) (x8 : Vec F S16x12 .f32) (x9 : Vec F S16x1 .f32)
  (xs0 : Vec F S3x226x256 .f32) (xs1 : Vec F S6x226x256 .f32) (xs2 : Vec F S12x226x256 .f32) (xs3 : Vec F S12x128 .f32)

/-- The first scratch buffer after a middle point. -/
theorem mid0 (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
      = next0 x0 xs0 := by
  unfold sout0_B_0 kernelRun0_B
  dsimp only
  sl_unfold_words
  simp only [read_writes_cons, View.read_writes_junk_eq_canon, readCov_ld, overlay_whole (S := S3x226x256) hz3, overlay_whole (S := S6x226x256) hz3, overlay_whole (S := S12x226x256) hz3, overlay_whole (S := S12x128) hz2, overlay_whole (S := S16x128) hz2, View.canon_cons_unit_zero (S := S3x226x256) hz3, View.canon_cons_unit_zero (S := S6x226x256) hz3, View.canon_cons_unit_zero (S := S12x226x256) hz3, View.canon_cons_unit_zero (S := S12x128) hz2, View.canon_cons_unit_zero (S := S16x128) hz2, View.canon_cons, View.writes_nil, View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, harg16.read_unread,
    View.ld_unit_zero (S := S1x3x224x224) hz4, View.ld_unit_zero (S := S6x27) hz2, View.ld_unit_zero (S := S6x1x1) hz3, View.ld_unit_zero (S := S12x54) hz2, View.ld_unit_zero (S := S12x1x1) hz3, View.ld_unit_zero (S := S12x108) hz2, View.ld_unit_zero (S := S12x128) hz2, View.ld_unit_zero (S := S16x12) hz2, View.ld_unit_zero (S := S16x128) hz2, View.ld_unit_zero (S := S16x1) hz2, View.ld_unit_zero (S := S3x226x256) hz3, View.ld_unit_zero (S := S6x226x256) hz3, View.ld_unit_zero (S := S12x226x256) hz3]
  rfl

/-- The second scratch buffer after a middle point. -/
theorem mid1 (hc0 : ¬cond0_0 i) (hc1 : ¬cond0_1 i) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
      = next1 x2 x3 (next0 x0 xs0) xs1 := by
  unfold sout0_B_1 kernelRun0_B
  dsimp only
  sl_unfold_words
  simp only [read_writes_cons, View.read_writes_junk_eq_canon, readCov_ld, overlay_whole (S := S3x226x256) hz3, overlay_whole (S := S6x226x256) hz3, overlay_whole (S := S12x226x256) hz3, overlay_whole (S := S12x128) hz2, overlay_whole (S := S16x128) hz2, View.canon_cons_unit_zero (S := S3x226x256) hz3, View.canon_cons_unit_zero (S := S6x226x256) hz3, View.canon_cons_unit_zero (S := S12x226x256) hz3, View.canon_cons_unit_zero (S := S12x128) hz2, View.canon_cons_unit_zero (S := S16x128) hz2, View.canon_cons, View.writes_nil, View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, harg16.read_unread,
    View.ld_unit_zero (S := S1x3x224x224) hz4, View.ld_unit_zero (S := S6x27) hz2, View.ld_unit_zero (S := S6x1x1) hz3, View.ld_unit_zero (S := S12x54) hz2, View.ld_unit_zero (S := S12x1x1) hz3, View.ld_unit_zero (S := S12x108) hz2, View.ld_unit_zero (S := S12x128) hz2, View.ld_unit_zero (S := S16x12) hz2, View.ld_unit_zero (S := S16x128) hz2, View.ld_unit_zero (S := S16x1) hz2, View.ld_unit_zero (S := S3x226x256) hz3, View.ld_unit_zero (S := S6x226x256) hz3, View.ld_unit_zero (S := S12x226x256) hz3]
  rfl

/-- The third scratch buffer after a middle point. -/
theorem mid2 (hc0 : ¬cond0_0 i) (hc1 : ¬cond0_1 i) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
      = next2 x4 x5 (next1 x2 x3 (next0 x0 xs0) xs1) xs2 := by
  unfold sout0_B_2 kernelRun0_B
  dsimp only
  sl_unfold_words
  simp only [read_writes_cons, View.read_writes_junk_eq_canon, readCov_ld, overlay_whole (S := S3x226x256) hz3, overlay_whole (S := S6x226x256) hz3, overlay_whole (S := S12x226x256) hz3, overlay_whole (S := S12x128) hz2, overlay_whole (S := S16x128) hz2, View.canon_cons_unit_zero (S := S3x226x256) hz3, View.canon_cons_unit_zero (S := S6x226x256) hz3, View.canon_cons_unit_zero (S := S12x226x256) hz3, View.canon_cons_unit_zero (S := S12x128) hz2, View.canon_cons_unit_zero (S := S16x128) hz2, View.canon_cons, View.writes_nil, View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, harg16.read_unread,
    View.ld_unit_zero (S := S1x3x224x224) hz4, View.ld_unit_zero (S := S6x27) hz2, View.ld_unit_zero (S := S6x1x1) hz3, View.ld_unit_zero (S := S12x54) hz2, View.ld_unit_zero (S := S12x1x1) hz3, View.ld_unit_zero (S := S12x108) hz2, View.ld_unit_zero (S := S12x128) hz2, View.ld_unit_zero (S := S16x12) hz2, View.ld_unit_zero (S := S16x128) hz2, View.ld_unit_zero (S := S16x1) hz2, View.ld_unit_zero (S := S3x226x256) hz3, View.ld_unit_zero (S := S6x226x256) hz3, View.ld_unit_zero (S := S12x226x256) hz3]
  rfl

/-- The channel means after a middle point. -/
theorem mid3 (hc0 : ¬cond0_0 i) (hc1 : ¬cond0_1 i) :
    sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
      = next3 (BitVec.ofNat 32 (i 0).val) x6 x7 (next2 x4 x5 (next1 x2 x3 (next0 x0 xs0) xs1) xs2) xs3 := by
  unfold sout0_B_3 kernelRun0_B
  dsimp only
  sl_unfold_words
  simp only [read_writes_cons, View.read_writes_junk_eq_canon, readCov_ld, overlay_whole (S := S3x226x256) hz3, overlay_whole (S := S6x226x256) hz3, overlay_whole (S := S12x226x256) hz3, overlay_whole (S := S12x128) hz2, overlay_whole (S := S16x128) hz2, View.canon_cons_unit_zero (S := S3x226x256) hz3, View.canon_cons_unit_zero (S := S6x226x256) hz3, View.canon_cons_unit_zero (S := S12x226x256) hz3, View.canon_cons_unit_zero (S := S12x128) hz2, View.canon_cons_unit_zero (S := S16x128) hz2, View.canon_cons, View.writes_nil, View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, harg16.read_unread,
    View.ld_unit_zero (S := S1x3x224x224) hz4, View.ld_unit_zero (S := S6x27) hz2, View.ld_unit_zero (S := S6x1x1) hz3, View.ld_unit_zero (S := S12x54) hz2, View.ld_unit_zero (S := S12x1x1) hz3, View.ld_unit_zero (S := S12x108) hz2, View.ld_unit_zero (S := S12x128) hz2, View.ld_unit_zero (S := S16x12) hz2, View.ld_unit_zero (S := S16x128) hz2, View.ld_unit_zero (S := S16x1) hz2, View.ld_unit_zero (S := S3x226x256) hz3, View.ld_unit_zero (S := S6x226x256) hz3, View.ld_unit_zero (S := S12x226x256) hz3]
  rfl

/-- The first scratch buffer after the last point. -/
theorem last0 (hc0 : ¬cond0_0 i) (hc1 : cond0_1 i) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
      = next0 x0 xs0 := by
  unfold sout0_C_0 kernelRun0_C
  dsimp only
  sl_unfold_words
  simp only [read_writes_cons, View.read_writes_junk_eq_canon, readCov_ld, overlay_whole (S := S3x226x256) hz3, overlay_whole (S := S6x226x256) hz3, overlay_whole (S := S12x226x256) hz3, overlay_whole (S := S12x128) hz2, overlay_whole (S := S16x128) hz2, View.canon_cons_unit_zero (S := S3x226x256) hz3, View.canon_cons_unit_zero (S := S6x226x256) hz3, View.canon_cons_unit_zero (S := S12x226x256) hz3, View.canon_cons_unit_zero (S := S12x128) hz2, View.canon_cons_unit_zero (S := S16x128) hz2, View.canon_cons, View.writes_nil, View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, harg16.read_unread,
    View.ld_unit_zero (S := S1x3x224x224) hz4, View.ld_unit_zero (S := S6x27) hz2, View.ld_unit_zero (S := S6x1x1) hz3, View.ld_unit_zero (S := S12x54) hz2, View.ld_unit_zero (S := S12x1x1) hz3, View.ld_unit_zero (S := S12x108) hz2, View.ld_unit_zero (S := S12x128) hz2, View.ld_unit_zero (S := S16x12) hz2, View.ld_unit_zero (S := S16x128) hz2, View.ld_unit_zero (S := S16x1) hz2, View.ld_unit_zero (S := S3x226x256) hz3, View.ld_unit_zero (S := S6x226x256) hz3, View.ld_unit_zero (S := S12x226x256) hz3]
  rfl

/-- The second scratch buffer after the last point. -/
theorem last1 (hc0 : ¬cond0_0 i) (hc1 : cond0_1 i) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
      = next1 x2 x3 (next0 x0 xs0) xs1 := by
  unfold sout0_C_1 kernelRun0_C
  dsimp only
  sl_unfold_words
  simp only [read_writes_cons, View.read_writes_junk_eq_canon, readCov_ld, overlay_whole (S := S3x226x256) hz3, overlay_whole (S := S6x226x256) hz3, overlay_whole (S := S12x226x256) hz3, overlay_whole (S := S12x128) hz2, overlay_whole (S := S16x128) hz2, View.canon_cons_unit_zero (S := S3x226x256) hz3, View.canon_cons_unit_zero (S := S6x226x256) hz3, View.canon_cons_unit_zero (S := S12x226x256) hz3, View.canon_cons_unit_zero (S := S12x128) hz2, View.canon_cons_unit_zero (S := S16x128) hz2, View.canon_cons, View.writes_nil, View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, harg16.read_unread,
    View.ld_unit_zero (S := S1x3x224x224) hz4, View.ld_unit_zero (S := S6x27) hz2, View.ld_unit_zero (S := S6x1x1) hz3, View.ld_unit_zero (S := S12x54) hz2, View.ld_unit_zero (S := S12x1x1) hz3, View.ld_unit_zero (S := S12x108) hz2, View.ld_unit_zero (S := S12x128) hz2, View.ld_unit_zero (S := S16x12) hz2, View.ld_unit_zero (S := S16x128) hz2, View.ld_unit_zero (S := S16x1) hz2, View.ld_unit_zero (S := S3x226x256) hz3, View.ld_unit_zero (S := S6x226x256) hz3, View.ld_unit_zero (S := S12x226x256) hz3]
  rfl

/-- The third scratch buffer after the last point. -/
theorem last2 (hc0 : ¬cond0_0 i) (hc1 : cond0_1 i) :
    sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
      = next2 x4 x5 (next1 x2 x3 (next0 x0 xs0) xs1) xs2 := by
  unfold sout0_C_2 kernelRun0_C
  dsimp only
  sl_unfold_words
  simp only [read_writes_cons, View.read_writes_junk_eq_canon, readCov_ld, overlay_whole (S := S3x226x256) hz3, overlay_whole (S := S6x226x256) hz3, overlay_whole (S := S12x226x256) hz3, overlay_whole (S := S12x128) hz2, overlay_whole (S := S16x128) hz2, View.canon_cons_unit_zero (S := S3x226x256) hz3, View.canon_cons_unit_zero (S := S6x226x256) hz3, View.canon_cons_unit_zero (S := S12x226x256) hz3, View.canon_cons_unit_zero (S := S12x128) hz2, View.canon_cons_unit_zero (S := S16x128) hz2, View.canon_cons, View.writes_nil, View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, harg16.read_unread,
    View.ld_unit_zero (S := S1x3x224x224) hz4, View.ld_unit_zero (S := S6x27) hz2, View.ld_unit_zero (S := S6x1x1) hz3, View.ld_unit_zero (S := S12x54) hz2, View.ld_unit_zero (S := S12x1x1) hz3, View.ld_unit_zero (S := S12x108) hz2, View.ld_unit_zero (S := S12x128) hz2, View.ld_unit_zero (S := S16x12) hz2, View.ld_unit_zero (S := S16x128) hz2, View.ld_unit_zero (S := S16x1) hz2, View.ld_unit_zero (S := S3x226x256) hz3, View.ld_unit_zero (S := S6x226x256) hz3, View.ld_unit_zero (S := S12x226x256) hz3]
  rfl

/-- The channel means after the last point. -/
theorem last3 (hc0 : ¬cond0_0 i) (hc1 : cond0_1 i) :
    sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
      = next3 (BitVec.ofNat 32 (i 0).val) x6 x7 (next2 x4 x5 (next1 x2 x3 (next0 x0 xs0) xs1) xs2) xs3 := by
  unfold sout0_C_3 kernelRun0_C
  dsimp only
  sl_unfold_words
  simp only [read_writes_cons, View.read_writes_junk_eq_canon, readCov_ld, overlay_whole (S := S3x226x256) hz3, overlay_whole (S := S6x226x256) hz3, overlay_whole (S := S12x226x256) hz3, overlay_whole (S := S12x128) hz2, overlay_whole (S := S16x128) hz2, View.canon_cons_unit_zero (S := S3x226x256) hz3, View.canon_cons_unit_zero (S := S6x226x256) hz3, View.canon_cons_unit_zero (S := S12x226x256) hz3, View.canon_cons_unit_zero (S := S12x128) hz2, View.canon_cons_unit_zero (S := S16x128) hz2, View.canon_cons, View.writes_nil, View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, harg16.read_unread,
    View.ld_unit_zero (S := S1x3x224x224) hz4, View.ld_unit_zero (S := S6x27) hz2, View.ld_unit_zero (S := S6x1x1) hz3, View.ld_unit_zero (S := S12x54) hz2, View.ld_unit_zero (S := S12x1x1) hz3, View.ld_unit_zero (S := S12x108) hz2, View.ld_unit_zero (S := S12x128) hz2, View.ld_unit_zero (S := S16x12) hz2, View.ld_unit_zero (S := S16x128) hz2, View.ld_unit_zero (S := S16x1) hz2, View.ld_unit_zero (S := S3x226x256) hz3, View.ld_unit_zero (S := S6x226x256) hz3, View.ld_unit_zero (S := S12x226x256) hz3]
  rfl

/-- The probabilities the last point leaves. -/
theorem last_probs (hc0 : ¬cond0_0 i) (hc1 : cond0_1 i) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
      = k0_pay5 x8 (next3 (BitVec.ofNat 32 (i 0).val) x6 x7 (next2 x4 x5 (next1 x2 x3 (next0 x0 xs0) xs1) xs2) xs3) x1 x9 := by
  unfold out0_C_11 kernelRun0_C
  dsimp only
  sl_unfold_words
  simp only [read_writes_cons, View.read_writes_junk_eq_canon, readCov_ld, overlay_whole (S := S3x226x256) hz3, overlay_whole (S := S6x226x256) hz3, overlay_whole (S := S12x226x256) hz3, overlay_whole (S := S12x128) hz2, overlay_whole (S := S16x128) hz2, View.canon_cons_unit_zero (S := S3x226x256) hz3, View.canon_cons_unit_zero (S := S6x226x256) hz3, View.canon_cons_unit_zero (S := S12x226x256) hz3, View.canon_cons_unit_zero (S := S12x128) hz2, View.canon_cons_unit_zero (S := S16x128) hz2, View.canon_cons, View.writes_nil, View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, harg16.read_unread,
    View.ld_unit_zero (S := S1x3x224x224) hz4, View.ld_unit_zero (S := S6x27) hz2, View.ld_unit_zero (S := S6x1x1) hz3, View.ld_unit_zero (S := S12x54) hz2, View.ld_unit_zero (S := S12x1x1) hz3, View.ld_unit_zero (S := S12x108) hz2, View.ld_unit_zero (S := S12x128) hz2, View.ld_unit_zero (S := S16x12) hz2, View.ld_unit_zero (S := S16x128) hz2, View.ld_unit_zero (S := S16x1) hz2, View.ld_unit_zero (S := S3x226x256) hz3, View.ld_unit_zero (S := S6x226x256) hz3, View.ld_unit_zero (S := S12x226x256) hz3]
  rfl

/-- The routing weights the last point leaves. -/
theorem last_sparse (hc0 : ¬cond0_0 i) (hc1 : cond0_1 i) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3
      = weights x8 (next3 (BitVec.ofNat 32 (i 0).val) x6 x7 (next2 x4 x5 (next1 x2 x3 (next0 x0 xs0) xs1) xs2) xs3) x1 x9 := by
  unfold out0_C_10 kernelRun0_C
  dsimp only
  sl_unfold_words
  simp only [read_writes_cons, View.read_writes_junk_eq_canon, readCov_ld, overlay_whole (S := S3x226x256) hz3, overlay_whole (S := S6x226x256) hz3, overlay_whole (S := S12x226x256) hz3, overlay_whole (S := S12x128) hz2, overlay_whole (S := S16x128) hz2, View.canon_cons_unit_zero (S := S3x226x256) hz3, View.canon_cons_unit_zero (S := S6x226x256) hz3, View.canon_cons_unit_zero (S := S12x226x256) hz3, View.canon_cons_unit_zero (S := S12x128) hz2, View.canon_cons_unit_zero (S := S16x128) hz2, View.canon_cons, View.writes_nil, View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, harg16.read_unread,
    View.ld_unit_zero (S := S1x3x224x224) hz4, View.ld_unit_zero (S := S6x27) hz2, View.ld_unit_zero (S := S6x1x1) hz3, View.ld_unit_zero (S := S12x54) hz2, View.ld_unit_zero (S := S12x1x1) hz3, View.ld_unit_zero (S := S12x108) hz2, View.ld_unit_zero (S := S12x128) hz2, View.ld_unit_zero (S := S16x12) hz2, View.ld_unit_zero (S := S16x128) hz2, View.ld_unit_zero (S := S16x1) hz2, View.ld_unit_zero (S := S3x226x256) hz3, View.ld_unit_zero (S := S6x226x256) hz3, View.ld_unit_zero (S := S12x226x256) hz3]
  rfl

/-- The first scratch buffer after the first point. -/
theorem first0 (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9
      = next0 x0 k0_pay11 := by
  unfold sout0_A_0 kernelRun0_A
  dsimp only
  sl_unfold_words
  simp only [read_writes_cons, View.read_writes_junk_eq_canon, readCov_ld, overlay_whole (S := S3x226x256) hz3, overlay_whole (S := S6x226x256) hz3, overlay_whole (S := S12x226x256) hz3, overlay_whole (S := S12x128) hz2, overlay_whole (S := S16x128) hz2, View.canon_cons_unit_zero (S := S3x226x256) hz3, View.canon_cons_unit_zero (S := S6x226x256) hz3, View.canon_cons_unit_zero (S := S12x226x256) hz3, View.canon_cons_unit_zero (S := S12x128) hz2, View.canon_cons_unit_zero (S := S16x128) hz2, View.canon_cons, View.writes_nil, View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, harg16.read_unread,
    View.ld_unit_zero (S := S1x3x224x224) hz4, View.ld_unit_zero (S := S6x27) hz2, View.ld_unit_zero (S := S6x1x1) hz3, View.ld_unit_zero (S := S12x54) hz2, View.ld_unit_zero (S := S12x1x1) hz3, View.ld_unit_zero (S := S12x108) hz2, View.ld_unit_zero (S := S12x128) hz2, View.ld_unit_zero (S := S16x12) hz2, View.ld_unit_zero (S := S16x128) hz2, View.ld_unit_zero (S := S16x1) hz2, View.ld_unit_zero (S := S3x226x256) hz3, View.ld_unit_zero (S := S6x226x256) hz3, View.ld_unit_zero (S := S12x226x256) hz3]
  rfl

/-- The second scratch buffer after the first point. -/
theorem first1 (hc0 : cond0_0 i) (hc1 : ¬cond0_1 i) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9
      = next1 x2 x3 (next0 x0 k0_pay11) k0_pay12 := by
  unfold sout0_A_1 kernelRun0_A
  dsimp only
  sl_unfold_words
  simp only [read_writes_cons, View.read_writes_junk_eq_canon, readCov_ld, overlay_whole (S := S3x226x256) hz3, overlay_whole (S := S6x226x256) hz3, overlay_whole (S := S12x226x256) hz3, overlay_whole (S := S12x128) hz2, overlay_whole (S := S16x128) hz2, View.canon_cons_unit_zero (S := S3x226x256) hz3, View.canon_cons_unit_zero (S := S6x226x256) hz3, View.canon_cons_unit_zero (S := S12x226x256) hz3, View.canon_cons_unit_zero (S := S12x128) hz2, View.canon_cons_unit_zero (S := S16x128) hz2, View.canon_cons, View.writes_nil, View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, harg16.read_unread,
    View.ld_unit_zero (S := S1x3x224x224) hz4, View.ld_unit_zero (S := S6x27) hz2, View.ld_unit_zero (S := S6x1x1) hz3, View.ld_unit_zero (S := S12x54) hz2, View.ld_unit_zero (S := S12x1x1) hz3, View.ld_unit_zero (S := S12x108) hz2, View.ld_unit_zero (S := S12x128) hz2, View.ld_unit_zero (S := S16x12) hz2, View.ld_unit_zero (S := S16x128) hz2, View.ld_unit_zero (S := S16x1) hz2, View.ld_unit_zero (S := S3x226x256) hz3, View.ld_unit_zero (S := S6x226x256) hz3, View.ld_unit_zero (S := S12x226x256) hz3]
  rfl

/-- The third scratch buffer after the first point. -/
theorem first2 (hc0 : cond0_0 i) (hc1 : ¬cond0_1 i) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9
      = next2 x4 x5 (next1 x2 x3 (next0 x0 k0_pay11) k0_pay12) k0_pay13 := by
  unfold sout0_A_2 kernelRun0_A
  dsimp only
  sl_unfold_words
  simp only [read_writes_cons, View.read_writes_junk_eq_canon, readCov_ld, overlay_whole (S := S3x226x256) hz3, overlay_whole (S := S6x226x256) hz3, overlay_whole (S := S12x226x256) hz3, overlay_whole (S := S12x128) hz2, overlay_whole (S := S16x128) hz2, View.canon_cons_unit_zero (S := S3x226x256) hz3, View.canon_cons_unit_zero (S := S6x226x256) hz3, View.canon_cons_unit_zero (S := S12x226x256) hz3, View.canon_cons_unit_zero (S := S12x128) hz2, View.canon_cons_unit_zero (S := S16x128) hz2, View.canon_cons, View.writes_nil, View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, harg16.read_unread,
    View.ld_unit_zero (S := S1x3x224x224) hz4, View.ld_unit_zero (S := S6x27) hz2, View.ld_unit_zero (S := S6x1x1) hz3, View.ld_unit_zero (S := S12x54) hz2, View.ld_unit_zero (S := S12x1x1) hz3, View.ld_unit_zero (S := S12x108) hz2, View.ld_unit_zero (S := S12x128) hz2, View.ld_unit_zero (S := S16x12) hz2, View.ld_unit_zero (S := S16x128) hz2, View.ld_unit_zero (S := S16x1) hz2, View.ld_unit_zero (S := S3x226x256) hz3, View.ld_unit_zero (S := S6x226x256) hz3, View.ld_unit_zero (S := S12x226x256) hz3]
  rfl

/-- The channel means after the first point. -/
theorem first3 (hc0 : cond0_0 i) (hc1 : ¬cond0_1 i) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9
      = next3 (BitVec.ofNat 32 (i 0).val) x6 x7 (next2 x4 x5 (next1 x2 x3 (next0 x0 k0_pay11) k0_pay12) k0_pay13) k0_pay14 := by
  unfold sout0_A_3 kernelRun0_A
  dsimp only
  sl_unfold_words
  simp only [read_writes_cons, View.read_writes_junk_eq_canon, readCov_ld, overlay_whole (S := S3x226x256) hz3, overlay_whole (S := S6x226x256) hz3, overlay_whole (S := S12x226x256) hz3, overlay_whole (S := S12x128) hz2, overlay_whole (S := S16x128) hz2, View.canon_cons_unit_zero (S := S3x226x256) hz3, View.canon_cons_unit_zero (S := S6x226x256) hz3, View.canon_cons_unit_zero (S := S12x226x256) hz3, View.canon_cons_unit_zero (S := S12x128) hz2, View.canon_cons_unit_zero (S := S16x128) hz2, View.canon_cons, View.writes_nil, View.readAt_eq_ld, harg1.read_unread, harg2.read_unread, harg3.read_unread, harg4.read_unread, harg5.read_unread, harg6.read_unread, harg7.read_unread, harg8.read_unread, harg9.read_unread, harg10.read_unread, harg13.read_unread, harg14.read_unread, harg15.read_unread, harg16.read_unread,
    View.ld_unit_zero (S := S1x3x224x224) hz4, View.ld_unit_zero (S := S6x27) hz2, View.ld_unit_zero (S := S6x1x1) hz3, View.ld_unit_zero (S := S12x54) hz2, View.ld_unit_zero (S := S12x1x1) hz3, View.ld_unit_zero (S := S12x108) hz2, View.ld_unit_zero (S := S12x128) hz2, View.ld_unit_zero (S := S16x12) hz2, View.ld_unit_zero (S := S16x128) hz2, View.ld_unit_zero (S := S16x1) hz2, View.ld_unit_zero (S := S3x226x256) hz3, View.ld_unit_zero (S := S6x226x256) hz3, View.ld_unit_zero (S := S12x226x256) hz3]
  rfl

end

end Cert.Proof.KCase

end
-- ==== Proof.Spec.lean ====
/- The mathematics of the gate over the real numbers. -/
module

public import Idealize.ShloMosaic.PureOps.Ideal.Laws
public import Idealize.ShloMosaic.Lib.Pointwise.Sums

@[expose] public section

/-!
Three convolution layers over one image, each followed by a scale and shift per channel and a rectifier; the mean of every
channel; a linear map to sixteen logits; and the mask.
-/

namespace Cert.Proof.Spec

open Idealize.ShloMosaic

noncomputable section

/-- An image with a border of zeros, read at the padded coordinates. -/
def border {C : ℕ} (f : Fin C → Fin 224 → Fin 224 → ℝ) (c : Fin C) (h w : ℕ) : ℝ :=
  if hh : (1 ≤ h ∧ h ≤ 224) ∧ (1 ≤ w ∧ w ≤ 224) then f c ⟨h - 1, by omega⟩ ⟨w - 1, by omega⟩ else 0

/-- The border read inside the image. -/
theorem border_inside {C : ℕ} (f : Fin C → Fin 224 → Fin 224 → ℝ) (c : Fin C) (h w : Fin 224) :
    border f c (h.val + 1) (w.val + 1) = f c h w := by
  have hh := h.isLt
  have hw := w.isLt
  unfold border
  rw [dif_pos (by omega)]
  rfl

/-- The border read outside the image. -/
theorem border_outside {C : ℕ} (f : Fin C → Fin 224 → Fin 224 → ℝ) (c : Fin C) (h w : ℕ)
    (hh : ¬((1 ≤ h ∧ h ≤ 224) ∧ (1 ≤ w ∧ w ≤ 224))) : border f c h w = 0 := dif_neg hh

/-- One tap of the convolution: the channels of the pixel the tap names, weighted. -/
def tap {C O : ℕ} (W : Fin O → Fin C → Fin 3 → Fin 3 → ℝ) (f : Fin C → Fin 224 → Fin 224 → ℝ) (o : Fin O) (h w : Fin 224)
    (dy dx : Fin 3) : ℝ :=
  ∑ c : Fin C, W o c dy dx * border f c (h.val + dy.val) (w.val + dx.val)

/-- The convolution with nine taps. -/
def conv {C O : ℕ} (W : Fin O → Fin C → Fin 3 → Fin 3 → ℝ) (f : Fin C → Fin 224 → Fin 224 → ℝ) (o : Fin O) (h w : Fin 224) : ℝ :=
  ∑ dy : Fin 3, ∑ dx : Fin 3, tap W f o h w dy dx

/-- A layer's parameters. -/
structure Params (C O : ℕ) where
  /-- the filters -/
  W : Fin O → Fin C → Fin 3 → Fin 3 → ℝ
  /-- the convolution's bias -/
  b : Fin O → ℝ
  /-- the scale of a channel -/
  s : Fin O → ℝ
  /-- the shift of a channel -/
  t : Fin O → ℝ

/-- A layer: convolve, add the bias, scale, shift, rectify. -/
def layer {C O : ℕ} (p : Params C O) (f : Fin C → Fin 224 → Fin 224 → ℝ) (o : Fin O) (h w : Fin 224) : ℝ :=
  max ((conv p.W f o h w + p.b o) * p.s o + p.t o) 0

/-- The mean of a channel. -/
def pooled {C : ℕ} (f : Fin C → Fin 224 → Fin 224 → ℝ) (c : Fin C) : ℝ :=
  (∑ h : Fin 224, ∑ w : Fin 224, f c h w) * (1 / 50176)

/-- The extended real of a finite sum of reals is the sum of the extended reals. -/
theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The extended real of a maximum of reals. -/
theorem coe_max (x y : ℝ) : ((max x y : ℝ) : EReal) = max (x : EReal) (y : EReal) :=
  (EReal.coe_strictMono.monotone).map_max

/-- The layer with the scale folded into the filters and the bias, summed tap after tap, is the layer. -/
theorem layer_folded {C O : ℕ} (p : Params C O) (f : Fin C → Fin 224 → Fin 224 → ℝ) (o : Fin O) (h w : Fin 224) :
    max ((∑ j : Fin 9, ∑ c : Fin C, (p.W o c ⟨j.val / 3, by omega⟩ ⟨j.val % 3, by omega⟩ * p.s o)
      * border f c (h.val + j.val / 3) (w.val + j.val % 3)) + (p.b o * p.s o + p.t o)) 0 = layer p f o h w := by
  have e : ∀ j : Fin 9, ∑ c : Fin C, (p.W o c ⟨j.val / 3, by omega⟩ ⟨j.val % 3, by omega⟩ * p.s o)
      * border f c (h.val + j.val / 3) (w.val + j.val % 3)
      = tap p.W f o h w ⟨j.val / 3, by omega⟩ ⟨j.val % 3, by omega⟩ * p.s o := fun j => by
    unfold tap
    rw [Finset.sum_mul]
    exact Finset.sum_congr rfl fun c _ => by ring
  unfold layer conv
  rw [Finset.sum_congr rfl fun j _ => e j]
  congr 1
  simp only [Fin.sum_univ_succ, Fin.sum_univ_zero, Finset.univ_eq_empty, Finset.sum_empty]
  show tap p.W f o h w 0 0 * p.s o + (tap p.W f o h w 0 1 * p.s o + (tap p.W f o h w 0 2 * p.s o
    + (tap p.W f o h w 1 0 * p.s o + (tap p.W f o h w 1 1 * p.s o + (tap p.W f o h w 1 2 * p.s o
    + (tap p.W f o h w 2 0 * p.s o + (tap p.W f o h w 2 1 * p.s o + (tap p.W f o h w 2 2 * p.s o + 0)))))))) + _ =
    (tap p.W f o h w 0 0 + (tap p.W f o h w 0 1 + (tap p.W f o h w 0 2 + 0))
      + (tap p.W f o h w 1 0 + (tap p.W f o h w 1 1 + (tap p.W f o h w 1 2 + 0))
      + (tap p.W f o h w 2 0 + (tap p.W f o h w 2 1 + (tap p.W f o h w 2 2 + 0)) + 0)) + p.b o) * p.s o + p.t o
  ring

/-- The nine taps added one after another from zero are the convolution. -/
theorem conv_chain {C O : ℕ} (W : Fin O → Fin C → Fin 3 → Fin 3 → ℝ) (f : Fin C → Fin 224 → Fin 224 → ℝ) (o : Fin O)
    (h w : Fin 224) :
    0 + tap W f o h w 0 0 + tap W f o h w 0 1 + tap W f o h w 0 2 + tap W f o h w 1 0 + tap W f o h w 1 1 + tap W f o h w 1 2
      + tap W f o h w 2 0 + tap W f o h w 2 1 + tap W f o h w 2 2 = conv W f o h w := by
  unfold conv
  simp only [Fin.sum_univ_three]
  ring

/-- The images and the parameters of the three layers, over the real numbers. -/
structure Net where
  /-- the images -/
  x : Fin 128 → Fin 3 → Fin 224 → Fin 224 → ℝ
  /-- the first layer -/
  p1 : Params 3 6
  /-- the second layer -/
  p2 : Params 6 12
  /-- the third layer -/
  p3 : Params 12 12

/-- The channel means of an image after the three layers. -/
def Net.mean (N : Net) (n : Fin 128) (o : Fin 12) : ℝ := pooled (layer N.p3 (layer N.p2 (layer N.p1 (N.x n)))) o

end

end Cert.Proof.Spec

end
-- ==== Proof.Routing.lean ====
/- The choice of the two greatest of sixteen extended reals. -/
module

public import Idealize.ShloMosaic.Lib.SortPrefix
public import Idealize.ShloMosaic.PureOps.Ideal.Laws
public import Mathlib.Data.Finset.Fold

@[expose] public section

/-!
The choice of the two greatest of sixteen extended reals, as the kernel makes it (a maximum, the first place that reaches
it, the maximum of the rest, the first place that reaches that) and as a stable sort makes it, with the two weights.
-/

namespace Cert.Proof.Routing

open Idealize.ShloMosaic

/-- A nonempty set of places has a first place at which `L` is greatest. -/
theorem exists_first_max (L : Fin 16 → EReal) (s : Finset (Fin 16)) (hs : s.Nonempty) :
    ∃ e ∈ s, (∀ i ∈ s, L i ≤ L e) ∧ ∀ i ∈ s, i < e → L i < L e := by
  classical
  obtain ⟨a, ha, hmax⟩ := s.exists_max_image L hs
  have hne : (s.filter fun i => L a ≤ L i).Nonempty := ⟨a, by simp [ha]⟩
  have hmem := Finset.mem_filter.mp (Finset.min'_mem _ hne)
  refine ⟨_, hmem.1, fun i hi => (hmax i hi).trans hmem.2, fun i hi hlt => ?_⟩
  by_contra hge
  have hLi : L a ≤ L i := hmem.2.trans (not_lt.mp hge)
  exact absurd (Finset.min'_le (s.filter fun i => L a ≤ L i) i (Finset.mem_filter.mpr ⟨hi, hLi⟩)) (not_le.mpr hlt)

/-- `e1` is the first place of the greatest value, `e2` the first place of the greatest value among the others. -/
structure Top (L : Fin 16 → EReal) (e1 e2 : Fin 16) : Prop where
  max1 : ∀ i, L i ≤ L e1
  first1 : ∀ i, i < e1 → L i < L e1
  ne : e2 ≠ e1
  max2 : ∀ i, i ≠ e1 → L i ≤ L e2
  first2 : ∀ i, i ≠ e1 → i < e2 → L i < L e2

/-- Such a pair of places exists. -/
theorem exists_top (L : Fin 16 → EReal) : ∃ e1 e2, Top L e1 e2 := by
  classical
  obtain ⟨e1, -, h1, h2⟩ := exists_first_max L Finset.univ ⟨0, Finset.mem_univ _⟩
  have hne : (Finset.univ.erase e1).Nonempty := by
    apply Finset.card_pos.mp
    rw [Finset.card_erase_of_mem (Finset.mem_univ _)]
    simp
  obtain ⟨e2, h3, h4, h5⟩ := exists_first_max L (Finset.univ.erase e1) hne
  exact ⟨e1, e2, fun i => h1 i (Finset.mem_univ _), fun i => h2 i (Finset.mem_univ _), Finset.ne_of_mem_erase h3,
    fun i hi => h4 i (Finset.mem_erase.mpr ⟨hi, Finset.mem_univ _⟩), fun i hi => h5 i (Finset.mem_erase.mpr ⟨hi, Finset.mem_univ _⟩)⟩

/-- The second place's share before normalisation. -/
noncomputable def gap (L : Fin 16 → EReal) (e1 e2 : Fin 16) : EReal := Ideal.exp (L e2 - L e1)

/-- The routing weights: the softmax of the two greatest values at their places, zero elsewhere. -/
noncomputable def routed (L : Fin 16 → EReal) (e1 e2 e : Fin 16) : EReal :=
  if e = e2 then Ideal.div (gap L e1 e2) (1 + gap L e1 e2)
  else if e = e1 then Ideal.div 1 (1 + gap L e1 e2) else 0

/-- The softmax of a row of extended reals, at one place. -/
noncomputable def share (L : Fin 16 → EReal) (e1 e : Fin 16) : EReal :=
  Ideal.div (Ideal.exp (L e - L e1)) (∑ k : Fin 16, Ideal.exp (L k - L e1))

/-- A row without its first place. -/
noncomputable def rest (L : Fin 16 → EReal) (e1 : Fin 16) : Fin 16 → EReal := fun i => if i = e1 then ⊥ else L i

/-- The maximum of finitely many extended reals, one of which is an upper bound of them. -/
theorem fold_max_eq {n : ℕ} (L : Fin n → EReal) (e : Fin n) (h : ∀ i, L i ≤ L e) : Finset.univ.fold max ⊥ L = L e :=
  le_antisymm ((Finset.fold_max_le _).mpr ⟨bot_le, fun i _ => h i⟩) ((Finset.le_fold_max _).mpr (Or.inr ⟨e, Finset.mem_univ _, le_rfl⟩))

/-- The maximum of the rest is the second greatest value. -/
theorem fold_max_rest {L : Fin 16 → EReal} {e1 e2 : Fin 16} (h : Top L e1 e2) : Finset.univ.fold max ⊥ (rest L e1) = L e2 := by
  have h2 : rest L e1 e2 = L e2 := if_neg h.ne
  rw [fold_max_eq (rest L e1) e2 fun i => ?_, h2]
  rw [h2]
  unfold rest
  split
  · exact bot_le
  · next hi => exact h.max2 i hi

/-- The signed minimum of two words, read as integers. -/
theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

/-- The place numbers are words of the same integer value. -/
theorem toInt_place (e : Fin 16) : (BitVec.ofNat 32 e.val).toInt = e.val := by
  revert e; decide

/-- The least place number among those that satisfy `P` (the others count as 99): the first place. -/
theorem fold_minsi (P : Fin 16 → Prop) [DecidablePred P] (e : Fin 16) (he : P e) (hlt : ∀ i, i < e → ¬ P i) :
    Finset.univ.fold IntOp.minsi 2147483647#32 (fun i : Fin 16 => if P i then BitVec.ofNat 32 i.val else 99#32)
      = BitVec.ofNat 32 e.val := by
  apply BitVec.eq_of_toInt_eq
  rw [← Finset.fold_hom (op' := min) (m := BitVec.toInt) toInt_minsi, toInt_place]
  have h99 : (99#32).toInt = 99 := by decide
  have hmax : (2147483647#32).toInt = 2147483647 := by decide
  have he16 : (e.val : ℤ) < 16 := by exact_mod_cast e.isLt
  apply le_antisymm
  · apply (Finset.fold_min_le _).mpr
    refine Or.inr ⟨e, Finset.mem_univ _, ?_⟩
    rw [if_pos he, toInt_place]
  · apply (Finset.le_fold_min _).mpr
    refine ⟨by rw [hmax]; omega, fun i _ => ?_⟩
    by_cases hP : P i
    · rw [if_pos hP, toInt_place]
      have : ¬ i < e := fun hl => hlt i hl hP
      exact_mod_cast not_lt.mp this
    · rw [if_neg hP, h99]; omega

/-- Two place numbers are equal words exactly when the places are equal. -/
theorem cmpi_place (e c : Fin 16) : IntOp.cmpi .eq (BitVec.ofNat 32 e.val) (BitVec.ofNat 32 c.val) = if e = c then 1#1 else 0#1 := by
  revert e c; decide

/-- A selection by equality of words. -/
theorem select_cmpi_eq {α : Type} {w : ℕ} (x y : BitVec w) (a b : α) :
    Scalar.select (IntOp.cmpi .eq x y) a b = if x = y then a else b := by
  by_cases h : x = y
  · subst h; simp [Scalar.select, IntOp.cmpi]
  · simp [Scalar.select, IntOp.cmpi, h, beq_eq_false_iff_ne.mpr h]

/-- A selection by equality of extended reals. -/
theorem select_cmpf_oeq {α : Type} (x y : EReal) (a b : α) :
    Scalar.select (Ideal.cmp .oeq x y) a b = if x = y then a else b := by
  by_cases h : x = y
  · subst h; simp [Scalar.select, Ideal.cmp]
  · simp [Scalar.select, Ideal.cmp, h]

/-- The exponential of a real number's difference with itself is one. -/
theorem exp_self {x : EReal} (hb : x ≠ ⊥) (ht : x ≠ ⊤) : Ideal.exp (x - x) = 1 := by
  lift x to ℝ using ⟨ht, hb⟩
  rw [← EReal.coe_sub, sub_self]
  show ((Real.exp 0 : ℝ) : EReal) = 1
  rw [Real.exp_zero]; rfl

/-- One over one. -/
theorem div_one_one : Ideal.div 1 (1 + 0) = 1 := by
  rw [add_zero, ← EReal.coe_one, Ideal.div_coe one_ne_zero, ← EReal.coe_mul]
  norm_num

/-- Zero over one. -/
theorem div_zero_one : Ideal.div 0 (1 + 0) = 0 := by
  rw [add_zero, ← EReal.coe_one, Ideal.div_coe one_ne_zero, zero_mul]

/-- The kernel's two selected weights, added, are the routing weights: where the second value is the bottom, its weight is
    zero wherever it lands; otherwise the kernel's second place is the second place. -/
theorem kernel_pick {L : Fin 16 → EReal} {e1 e2 : Fin 16} (h : Top L e1 e2) (c2 : Fin 16)
    (hc : rest L e1 c2 = L e2) (hf : ∀ i, i < c2 → rest L e1 i ≠ L e2) (e : Fin 16) :
    (if e = e1 then Ideal.div 1 (1 + gap L e1 e2) else 0) + (if e = c2 then Ideal.div (gap L e1 e2) (1 + gap L e1 e2) else 0)
      = routed L e1 e2 e := by
  by_cases hb : L e2 = ⊥
  · have hg : gap L e1 e2 = 0 := by
      unfold gap
      rw [hb, sub_eq_add_neg, EReal.bot_add]
      rfl
    unfold routed
    rw [hg, div_one_one, div_zero_one, ite_self, add_zero]
    by_cases h2 : e = e2
    · rw [if_pos h2, if_neg (by rw [h2]; exact h.ne)]
    · rw [if_neg h2]
  · have hc1 : c2 ≠ e1 := fun hh => hb (by rw [← hc, hh]; exact if_pos rfl)
    have hcL : L c2 = L e2 := by rw [← hc]; exact (if_neg hc1).symm
    have hce : c2 = e2 := by
      rcases lt_trichotomy c2 e2 with hl | he | hl
      · exact absurd hcL (h.first2 c2 hc1 hl).ne
      · exact he
      · exact absurd (if_neg h.ne) (hf e2 hl)
    unfold routed
    rw [hce]
    by_cases h2 : e = e2
    · rw [if_pos h2, if_pos h2, if_neg (by rw [h2]; exact h.ne), zero_add]
    · rw [if_neg h2, if_neg h2, add_zero]

/-- The kernel's second place exists: the first place of the greatest value of the rest. -/
theorem exists_second {L : Fin 16 → EReal} {e1 e2 : Fin 16} (h : Top L e1 e2) :
    ∃ c2, rest L e1 c2 = L e2 ∧ ∀ i, i < c2 → rest L e1 i ≠ L e2 := by
  obtain ⟨c2, -, h1, h2⟩ := exists_first_max (rest L e1) Finset.univ ⟨0, Finset.mem_univ _⟩
  have hc : rest L e1 c2 = L e2 := by
    rw [← fold_max_rest h, fold_max_eq _ c2 fun i => h1 i (Finset.mem_univ _)]
  exact ⟨c2, hc, fun i hi => by rw [← hc]; exact (h2 i (Finset.mem_univ _) hi).ne⟩

/-! ### The stable sort -/

/-- A stable sort of an increasing list asks its order only about a later element before an earlier one. -/
theorem stableSort_congr_lt {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The same for the sorting permutation. -/
theorem sortedFrom_congr_lt {n : ℕ} (R R' : Fin n → Fin n → Bool) (h : ∀ a b, a < b → R b a = R' b a) :
    sortedFrom R = sortedFrom R' := by
  funext k
  unfold sortedFrom
  have e : sortPositions n R = sortPositions n R' := stableSort_congr_lt R R' h _ (List.pairwise_lt_finRange n)
  rw [List.get_of_eq e]
  rfl

/-- The first two positions of a stable sort, greatest first, are the two places. -/
theorem sortedFrom_top {L : Fin 16 → EReal} {e1 e2 : Fin 16} (h : Top L e1 e2) (R : Fin 16 → Fin 16 → Bool)
    (hR : ∀ k k', R k k' = true ↔ L k' < L k) (i : Fin 2) : sortedFrom R (i.castLE (by decide)) = ![e1, e2] i := by
  classical
  let lt : EReal → EReal → Bool := fun a b => decide (b < a)
  have hB : StrictTotalBefore fun k k' : Fin 16 => lt (L k) (L k') || (decide (L k = L k') && decide (k < k')) :=
    StrictTotalBefore.of_key_then_position lt L (fun a => by simp [lt]) (fun a b c hab hbc => by
      simp only [lt, decide_eq_true_eq] at *
      exact hbc.trans hab) (fun a b => by
      simp only [lt, decide_eq_true_eq]
      rcases lt_trichotomy a b with h | h | h
      · exact Or.inr (Or.inr h)
      · exact Or.inr (Or.inl h)
      · exact Or.inl h)
  rw [sortedFrom_congr_lt R (fun k k' : Fin 16 => lt (L k) (L k') || (decide (L k = L k') && decide (k < k'))) fun a b hab => by
    have : ¬ b < a := not_lt.mpr hab.le
    simp only [this, decide_false, Bool.and_false, Bool.or_false, lt]
    rw [Bool.eq_iff_iff, hR, decide_eq_true_eq]]
  have hB1 : ∀ p, p ≠ e1 → (lt (L p) (L e1) || (decide (L p = L e1) && decide (p < e1))) = false := fun p _ => by
    have h1 : ¬ L e1 < L p := not_lt.mpr (h.max1 p)
    have h2 : ¬ (L p = L e1 ∧ p < e1) := fun hh => (h.first1 p hh.2).ne hh.1
    simp only [lt, h1, decide_false, Bool.false_or, ← Bool.decide_and, h2]
  have hB2 : ∀ p, p ≠ e1 → (lt (L p) (L e2) || (decide (L p = L e2) && decide (p < e2))) = false := fun p hp => by
    have h1 : ¬ L e2 < L p := not_lt.mpr (h.max2 p hp)
    have h2 : ¬ (L p = L e2 ∧ p < e2) := fun hh => (h.first2 p hp hh.2).ne hh.1
    simp only [lt, h1, decide_false, Bool.false_or, ← Bool.decide_and, h2]
  refine hB.sortedFrom_eq_of_prefix (k := 2) (by decide) ![e1, e2] ?_ ?_ ?_ i
  · intro a b hab
    fin_cases a <;> fin_cases b
    · rfl
    · exact absurd hab.symm h.ne
    · exact absurd hab h.ne
    · rfl
  · intro a b hab
    fin_cases a <;> fin_cases b
    · exact absurd hab (by decide)
    · exact hB1 e2 h.ne
    · exact absurd hab (by decide)
    · exact absurd hab (by decide)
  · intro a p hp
    have hp1 : p ≠ e1 := fun hh => hp 0 hh.symm
    fin_cases a
    · exact hB1 p hp1
    · exact hB2 p hp1

/-- The reference's weights of the two greatest values: a softmax of two. -/
theorem softmax_two {L : Fin 16 → EReal} {e1 e2 : Fin 16} (hb : L e1 ≠ ⊥) (ht : L e1 ≠ ⊤) (e : Fin 16) :
    (if e = e2 then Ideal.div (Ideal.exp (L e2 - L e1)) (0 + (Ideal.exp (L e1 - L e1) + Ideal.exp (L e2 - L e1)))
      else if e = e1 then Ideal.div (Ideal.exp (L e1 - L e1)) (0 + (Ideal.exp (L e1 - L e1) + Ideal.exp (L e2 - L e1))) else 0)
      = routed L e1 e2 e := by
  unfold routed gap
  rw [exp_self hb ht, zero_add]

end Cert.Proof.Routing

end
-- ==== Proof.KConv.lean ====
/- The kernel's convolution layers, read at an index. -/
module

public import proofs.«01_k».proof.Proof.Spec
public import proofs.«01_k».proof.Proof.Routing
public import proofs.«01_k».proof.Proof.Gen.KernelIdeal.Skeleton
public import Idealize.ShloMosaic.Lib.Pipeline.Value
public import Idealize.ShloMosaic.Lib.Pointwise

@[expose] public section

/-!
A layer stacks nine shifted copies of its padded input (rolled along the columns, so the last columns wrap round and are
cut off later), multiplies by the flattened filters and adds the bias.
-/

namespace Cert.Proof.KConv

open Idealize.ShloMosaic Cert.KernelIdeal Cert.KernelIdeal.Gen
open Cert.Proof.Spec Cert.Proof.Routing

noncomputable section

local instance : Cert.KernelIdeal.Facts := Cert.KernelIdeal.Gen.facts

variable {α : Type}

/-- Rows from `dy` on, read at an index. -/
theorem rows_apply {C : ℕ} (dy : ℕ) (v : (⟨3, ![C, 226, 256]⟩ : Shape).Idx → α)
    (hs : (⟨3, ![C, 226, 256]⟩ : Shape).Slices ![0, dy, 0] ⟨3, ![C, 224, 256]⟩) (c : Fin C) (h : Fin 224) (w : Fin 256)
    (hd : h.val + dy < 226) :
    extractStridedSlice ⟨3, ![C, 224, 256]⟩ ![0, dy, 0] v hs (ix3 c h w) = v (ix3 c ⟨h.val + dy, hd⟩ w) := by
  refine congrArg v (funext fun a => Fin.ext ?_)
  match a with
  | ⟨0, _⟩ => exact Nat.zero_add _
  | ⟨1, _⟩ => exact Nat.add_comm _ _
  | ⟨2, _⟩ => exact Nat.zero_add _

/-- A roll to the left by `dx`, read at a column that does not wrap round. -/
theorem roll_apply {C n₁ n₂ : ℕ} (dx : ℕ) (v : (⟨3, ![C, 224, 256]⟩ : Shape).Idx → α)
    (hs₁ : (⟨3, ![C, 224, 256]⟩ : Shape).Slices ![0, 0, dx] ⟨3, ![C, 224, n₁]⟩)
    (hs₂ : (⟨3, ![C, 224, 256]⟩ : Shape).Slices ![0, 0, 0] ⟨3, ![C, 224, n₂]⟩)
    (hc : Shape.Concatenates [⟨3, ![C, 224, n₁]⟩, ⟨3, ![C, 224, n₂]⟩] ⟨3, ![C, 224, 256]⟩ 2)
    (c : Fin C) (h : Fin 224) (w : Fin 256) (hw : w.val < n₁) (hd : w.val + dx < 256) :
    concatenate ⟨3, ![C, 224, 256]⟩ 2 [⟨⟨3, ![C, 224, n₁]⟩, extractStridedSlice ⟨3, ![C, 224, n₁]⟩ ![0, 0, dx] v hs₁⟩,
      ⟨⟨3, ![C, 224, n₂]⟩, extractStridedSlice ⟨3, ![C, 224, n₂]⟩ ![0, 0, 0] v hs₂⟩] hc (ix3 c h w)
      = v (ix3 c h ⟨w.val + dx, hd⟩) := by
  rw [concatenate_pair_apply_left (s₁ := ⟨3, ![C, 224, n₁]⟩) (t := ⟨3, ![C, 224, 256]⟩) 2 _ _ hc (ix3 c h w) rfl (ix3 c h ⟨w.val, hw⟩) fun b =>
    match b with
    | ⟨0, _⟩ => rfl
    | ⟨1, _⟩ => rfl
    | ⟨2, _⟩ => rfl]
  refine congrArg v (funext fun a => Fin.ext ?_)
  match a with
  | ⟨0, _⟩ => exact Nat.zero_add _
  | ⟨1, _⟩ => exact Nat.zero_add _
  | ⟨2, _⟩ => exact Nat.add_comm _ _

/-- The stack of nine copies, read at channel `c` of copy `j`. -/
theorem stack_apply {C N : ℕ} (x0 x1 x2 x3 x4 x5 x6 x7 x8 : (⟨3, ![C, 224, 256]⟩ : Shape).Idx → α)
    (hc : Shape.Concatenates [⟨3, ![C, 224, 256]⟩, ⟨3, ![C, 224, 256]⟩, ⟨3, ![C, 224, 256]⟩, ⟨3, ![C, 224, 256]⟩, ⟨3, ![C, 224, 256]⟩,
      ⟨3, ![C, 224, 256]⟩, ⟨3, ![C, 224, 256]⟩, ⟨3, ![C, 224, 256]⟩, ⟨3, ![C, 224, 256]⟩] ⟨3, ![N, 224, 256]⟩ 0)
    (j : Fin 9) (c : Fin C) (h : Fin 224) (w : Fin 256) (hN : j.val * C + c.val < N) :
    concatenate ⟨3, ![N, 224, 256]⟩ 0 [⟨⟨3, ![C, 224, 256]⟩, x0⟩, ⟨⟨3, ![C, 224, 256]⟩, x1⟩, ⟨⟨3, ![C, 224, 256]⟩, x2⟩,
      ⟨⟨3, ![C, 224, 256]⟩, x3⟩, ⟨⟨3, ![C, 224, 256]⟩, x4⟩, ⟨⟨3, ![C, 224, 256]⟩, x5⟩, ⟨⟨3, ![C, 224, 256]⟩, x6⟩,
      ⟨⟨3, ![C, 224, 256]⟩, x7⟩, ⟨⟨3, ![C, 224, 256]⟩, x8⟩] hc (ix3 ⟨j.val * C + c.val, hN⟩ h w)
      = (![x0, x1, x2, x3, x4, x5, x6, x7, x8] : Fin 9 → (⟨3, ![C, 224, 256]⟩ : Shape).Idx → α) j (ix3 c h w) := by
  have hC : 0 < C := Nat.pos_of_ne_zero fun h0 => by have := c.isLt; omega
  exact concatenate_ofFn_apply (s₁ := ⟨3, ![C, 224, 256]⟩) (t := ⟨3, ![N, 224, 256]⟩) 0
    ![x0, x1, x2, x3, x4, x5, x6, x7, x8] hc rfl C rfl (ix3 ⟨j.val * C + c.val, hN⟩ h w) j
    (by show (j.val * C + c.val) / C = j.val
        rw [Nat.mul_comm, Nat.mul_add_div hC, Nat.div_eq_of_lt c.isLt, Nat.add_zero])
    (ix3 c h w)
    (by show c.val = (j.val * C + c.val) % C
        rw [Nat.mul_comm, Nat.mul_add_mod, Nat.mod_eq_of_lt c.isLt])
    (fun b hb => match b, hb with
      | ⟨0, _⟩, hb => absurd rfl hb
      | ⟨1, _⟩, _ => rfl
      | ⟨2, _⟩, _ => rfl)

/-- The nine copies a layer stacks: copy `j` is the input shifted by `j / 3` rows and `j % 3` columns. -/
theorem copies_apply {C : ℕ} (v : (⟨3, ![C, 226, 256]⟩ : Shape).Idx → α)
    (r0 : (⟨3, ![C, 226, 256]⟩ : Shape).Slices ![0, 0, 0] ⟨3, ![C, 224, 256]⟩)
    (r1 : (⟨3, ![C, 226, 256]⟩ : Shape).Slices ![0, 1, 0] ⟨3, ![C, 224, 256]⟩)
    (r2 : (⟨3, ![C, 226, 256]⟩ : Shape).Slices ![0, 2, 0] ⟨3, ![C, 224, 256]⟩)
    (a1 : (⟨3, ![C, 224, 256]⟩ : Shape).Slices ![0, 0, 1] ⟨3, ![C, 224, 255]⟩)
    (b1 : (⟨3, ![C, 224, 256]⟩ : Shape).Slices ![0, 0, 0] ⟨3, ![C, 224, 1]⟩)
    (a2 : (⟨3, ![C, 224, 256]⟩ : Shape).Slices ![0, 0, 2] ⟨3, ![C, 224, 254]⟩)
    (b2 : (⟨3, ![C, 224, 256]⟩ : Shape).Slices ![0, 0, 0] ⟨3, ![C, 224, 2]⟩)
    (c1 : Shape.Concatenates [⟨3, ![C, 224, 255]⟩, ⟨3, ![C, 224, 1]⟩] ⟨3, ![C, 224, 256]⟩ 2)
    (c2 : Shape.Concatenates [⟨3, ![C, 224, 254]⟩, ⟨3, ![C, 224, 2]⟩] ⟨3, ![C, 224, 256]⟩ 2)
    (j : Fin 9) (c : Fin C) (h w : Fin 224) :
    (![extractStridedSlice ⟨3, ![C, 224, 256]⟩ ![0, 0, 0] v r0,
      concatenate ⟨3, ![C, 224, 256]⟩ 2 [⟨⟨3, ![C, 224, 255]⟩, extractStridedSlice ⟨3, ![C, 224, 255]⟩ ![0, 0, 1] (extractStridedSlice ⟨3, ![C, 224, 256]⟩ ![0, 0, 0] v r0) a1⟩,
        ⟨⟨3, ![C, 224, 1]⟩, extractStridedSlice ⟨3, ![C, 224, 1]⟩ ![0, 0, 0] (extractStridedSlice ⟨3, ![C, 224, 256]⟩ ![0, 0, 0] v r0) b1⟩] c1,
      concatenate ⟨3, ![C, 224, 256]⟩ 2 [⟨⟨3, ![C, 224, 254]⟩, extractStridedSlice ⟨3, ![C, 224, 254]⟩ ![0, 0, 2] (extractStridedSlice ⟨3, ![C, 224, 256]⟩ ![0, 0, 0] v r0) a2⟩,
        ⟨⟨3, ![C, 224, 2]⟩, extractStridedSlice ⟨3, ![C, 224, 2]⟩ ![0, 0, 0] (extractStridedSlice ⟨3, ![C, 224, 256]⟩ ![0, 0, 0] v r0) b2⟩] c2,
      extractStridedSlice ⟨3, ![C, 224, 256]⟩ ![0, 1, 0] v r1,
      concatenate ⟨3, ![C, 224, 256]⟩ 2 [⟨⟨3, ![C, 224, 255]⟩, extractStridedSlice ⟨3, ![C, 224, 255]⟩ ![0, 0, 1] (extractStridedSlice ⟨3, ![C, 224, 256]⟩ ![0, 1, 0] v r1) a1⟩,
        ⟨⟨3, ![C, 224, 1]⟩, extractStridedSlice ⟨3, ![C, 224, 1]⟩ ![0, 0, 0] (extractStridedSlice ⟨3, ![C, 224, 256]⟩ ![0, 1, 0] v r1) b1⟩] c1,
      concatenate ⟨3, ![C, 224, 256]⟩ 2 [⟨⟨3, ![C, 224, 254]⟩, extractStridedSlice ⟨3, ![C, 224, 254]⟩ ![0, 0, 2] (extractStridedSlice ⟨3, ![C, 224, 256]⟩ ![0, 1, 0] v r1) a2⟩,
        ⟨⟨3, ![C, 224, 2]⟩, extractStridedSlice ⟨3, ![C, 224, 2]⟩ ![0, 0, 0] (extractStridedSlice ⟨3, ![C, 224, 256]⟩ ![0, 1, 0] v r1) b2⟩] c2,
      extractStridedSlice ⟨3, ![C, 224, 256]⟩ ![0, 2, 0] v r2,
      concatenate ⟨3, ![C, 224, 256]⟩ 2 [⟨⟨3, ![C, 224, 255]⟩, extractStridedSlice ⟨3, ![C, 224, 255]⟩ ![0, 0, 1] (extractStridedSlice ⟨3, ![C, 224, 256]⟩ ![0, 2, 0] v r2) a1⟩,
        ⟨⟨3, ![C, 224, 1]⟩, extractStridedSlice ⟨3, ![C, 224, 1]⟩ ![0, 0, 0] (extractStridedSlice ⟨3, ![C, 224, 256]⟩ ![0, 2, 0] v r2) b1⟩] c1,
      concatenate ⟨3, ![C, 224, 256]⟩ 2 [⟨⟨3, ![C, 224, 254]⟩, extractStridedSlice ⟨3, ![C, 224, 254]⟩ ![0, 0, 2] (extractStridedSlice ⟨3, ![C, 224, 256]⟩ ![0, 2, 0] v r2) a2⟩,
        ⟨⟨3, ![C, 224, 2]⟩, extractStridedSlice ⟨3, ![C, 224, 2]⟩ ![0, 0, 0] (extractStridedSlice ⟨3, ![C, 224, 256]⟩ ![0, 2, 0] v r2) b2⟩] c2] : Fin 9 → (⟨3, ![C, 224, 256]⟩ : Shape).Idx → α) j (ix3 c h ⟨w.val, by omega⟩)
      = v (ix3 c ⟨h.val + j.val / 3, by omega⟩ ⟨w.val + j.val % 3, by omega⟩) := by
  have hh := h.isLt
  have hw := w.isLt
  fin_cases j
  · exact rows_apply 0 v r0 c h ⟨w.val, by omega⟩ (by omega)
  · exact (roll_apply 1 _ a1 b1 c1 c h ⟨w.val, by omega⟩ (by show w.val < 255; omega) (by show w.val + 1 < 256; omega)).trans
      (rows_apply 0 v r0 c h ⟨w.val + 1, by omega⟩ (by omega))
  · exact (roll_apply 2 _ a2 b2 c2 c h ⟨w.val, by omega⟩ (by show w.val < 254; omega) (by show w.val + 2 < 256; omega)).trans
      (rows_apply 0 v r0 c h ⟨w.val + 2, by omega⟩ (by omega))
  · exact rows_apply 1 v r1 c h ⟨w.val, by omega⟩ (by omega)
  · exact (roll_apply 1 _ a1 b1 c1 c h ⟨w.val, by omega⟩ (by show w.val < 255; omega) (by show w.val + 1 < 256; omega)).trans
      (rows_apply 1 v r1 c h ⟨w.val + 1, by omega⟩ (by omega))
  · exact (roll_apply 2 _ a2 b2 c2 c h ⟨w.val, by omega⟩ (by show w.val < 254; omega) (by show w.val + 2 < 256; omega)).trans
      (rows_apply 1 v r1 c h ⟨w.val + 2, by omega⟩ (by omega))
  · exact rows_apply 2 v r2 c h ⟨w.val, by omega⟩ (by omega)
  · exact (roll_apply 1 _ a1 b1 c1 c h ⟨w.val, by omega⟩ (by show w.val < 255; omega) (by show w.val + 1 < 256; omega)).trans
      (rows_apply 2 v r2 c h ⟨w.val + 1, by omega⟩ (by omega))
  · exact (roll_apply 2 _ a2 b2 c2 c h ⟨w.val, by omega⟩ (by show w.val < 254; omega) (by show w.val + 2 < 256; omega)).trans
      (rows_apply 2 v r2 c h ⟨w.val + 2, by omega⟩ (by omega))

/-- The first layer's product, read at an index. -/
theorem product1 (A : FVec Ideal S6x27 .f32) (B : FVec Ideal S27x224x256 .f32) (o : Fin 6) (h : Fin 224) (w : Fin 256) :
    matmul dot_S6x27_S27x224x256_S6x224x256_1_0_0_12_n_n none A B (constant S6x224x256 .f32 0x00000000#32) (ix3 o h w)
      = ∑ k : Fin 27, A (ix2 o k) * B (ix3 k h w) := by
  pointwise [dot_S6x27_S27x224x256_S6x224x256_1_0_0_12_n_n]

/-- The second layer's product, read at an index. -/
theorem product2 (A : FVec Ideal S12x54 .f32) (B : FVec Ideal S54x224x256 .f32) (o : Fin 12) (h : Fin 224) (w : Fin 256) :
    matmul dot_S12x54_S54x224x256_S12x224x256_1_0_0_12_n_n none A B (constant S12x224x256 .f32 0x00000000#32) (ix3 o h w)
      = ∑ k : Fin 54, A (ix2 o k) * B (ix3 k h w) := by
  pointwise [dot_S12x54_S54x224x256_S12x224x256_1_0_0_12_n_n]

/-- The third layer's product, read at an index. -/
theorem product3 (A : FVec Ideal S12x108 .f32) (B : FVec Ideal S108x224x256 .f32) (o : Fin 12) (h : Fin 224) (w : Fin 256) :
    matmul dot_S12x108_S108x224x256_S12x224x256_1_0_0_12_n_n none A B (constant S12x224x256 .f32 0x00000000#32) (ix3 o h w)
      = ∑ k : Fin 108, A (ix2 o k) * B (ix3 k h w) := by
  pointwise [dot_S12x108_S108x224x256_S12x224x256_1_0_0_12_n_n]

/-- The sum over rows and columns, read at a channel. -/
theorem plane_sum (v : FVec Ideal S12x224x224 .f32) (o : Fin 12) :
    multiReduction .add [1, 2] S12 v 0x00000000#32 reduces_S12x224x224_S12 (.inl rfl) rfl (ix1 o)
      = ∑ h : Fin 224, ∑ w : Fin 224, v (ix3 o h w) := by
  pointwise

/-- A rectifier and the cut to the image's columns, read at an index. -/
theorem cut2 (v : FVec Ideal S12x224x256 .f32) (o : Fin 12) (h w : Fin 224) :
    extractStridedSlice S12x224x224 ![0, 0, 0] (maximumf v (broadcast S12x224x256 (Scalar.ofBits .f32 0x00000000#32)))
      slices_S12x224x256_o0_0_0_S12x224x224 (ix3 o h w) = max (v (ix3 o h ⟨w.val, by omega⟩)) 0 := by
  pointwise

/-- The first layer before its rectifier, read at an index. -/
theorem pay16_apply (v8 : FVec Ideal S3x226x256 .f32) (v31 : FVec Ideal S6x27 .f32) (v34 : FVec Ideal S6x1x1 .f32)
    (o : Fin 6) (h w : Fin 224) :
    k0_pay16 v8 v31 v34 (ix3 o h ⟨w.val, by omega⟩)
      = (∑ j : Fin 9, ∑ c : Fin 3, v31 (ix2 o ⟨j.val * 3 + c.val, by omega⟩)
          * v8 (ix3 c ⟨h.val + j.val / 3, by omega⟩ ⟨w.val + j.val % 3, by omega⟩)) + v34 (ix3 o 0 0) := by
  unfold k0_pay16
  rw [addf_apply, product1, Fin.sum_univ_tiles 9 3 rfl]
  congr 1
  · refine Finset.sum_congr rfl fun j _ => Finset.sum_congr rfl fun c _ => ?_
    rw [stack_apply, shapeCast_self]
    exact congrArg _ (copies_apply v8 _ _ _ _ _ _ _ _ _ j c h w)
  · pointwise

/-- The first layer's rectifier and cut, read at an index. -/
theorem pay17_apply (v : FVec Ideal S6x224x256 .f32) (z : EReal) (o : Fin 6) (h w : Fin 224) :
    k0_pay17 v z (ix3 o h w) = max (v (ix3 o h ⟨w.val, by omega⟩)) z := by
  pointwise [k0_pay17]

/-- The second layer, read at an index. -/
theorem pay18_apply (v44 : FVec Ideal S6x226x256 .f32) (v67 : FVec Ideal S12x54 .f32) (v70 : FVec Ideal S12x1x1 .f32)
    (o : Fin 12) (h w : Fin 224) :
    k0_pay18 v44 v67 v70 (ix3 o h w)
      = max ((∑ j : Fin 9, ∑ c : Fin 6, v67 (ix2 o ⟨j.val * 6 + c.val, by omega⟩)
          * v44 (ix3 c ⟨h.val + j.val / 3, by omega⟩ ⟨w.val + j.val % 3, by omega⟩)) + v70 (ix3 o 0 0)) 0 := by
  unfold k0_pay18
  rw [shapeCast_self, cut2]
  congr 1
  rw [addf_apply, product2, Fin.sum_univ_tiles 9 6 rfl]
  congr 1
  · refine Finset.sum_congr rfl fun j _ => Finset.sum_congr rfl fun c _ => ?_
    rw [stack_apply, shapeCast_self]
    exact congrArg _ (copies_apply v44 _ _ _ _ _ _ _ _ _ j c h w)
  · pointwise

/-- One value per channel placed in one column of an otherwise zero array, read at an index. -/
theorem place_apply (n : BitVec 32) (v : FVec Ideal S12 .f32) (o : Fin 12) (l : Fin 128) :
    select (cmpi .eq (iota .tc S12x128 32 [1] iota_S12x128_d1_w32) (broadcast S12x128 n))
      (broadcastTo S12x128 (shapeCast S12x1 (shapeCast S12x1 v shapeCasts_S12_S12x1) shapeCasts_S12x1_S12x1) broadcasts_S12x1_S12x128)
      (broadcast S12x128 (Scalar.ofBits .f32 0x00000000#32)) (ix2 o l)
      = if BitVec.ofNat 32 l.val = n then v (ix1 o) else (0 : EReal) := by
  pointwise
  exact select_cmpi_eq _ _ _ _

/-- A channel's mean, with the named reciprocal of the number of pixels. -/
theorem mean_apply (v : FVec Ideal S12x224x224 .f32) (o : Fin 12) :
    mulf (multiReduction .add [1, 2] S12 v 0x00000000#32 reduces_S12x224x224_S12 (.inl rfl) rfl)
      (broadcast S12 (Named.named (F := Ideal) Cert.KernelIdeal.κ "inv_hw" 0x37A72F05#32)) (ix1 o)
      = (∑ h : Fin 224, ∑ w : Fin 224, v (ix3 o h w)) * ((1 / 50176 : ℝ) : EReal) :=
  congrArg₂ (fun a b : EReal => a * b) (plane_sum v o) (IdealRules.named_const.ideal_named_scalar _ _ _ _ rfl)

/-- The third layer's channel means, placed in the image's column of an otherwise zero array. -/
theorem pay19_apply (n : BitVec 32) (v80 : FVec Ideal S12x226x256 .f32) (v103 : FVec Ideal S12x108 .f32) (v106 : FVec Ideal S12x1x1 .f32)
    (o : Fin 12) (l : Fin 128) :
    k0_pay19 n v80 v103 v106 (ix2 o l)
      = if BitVec.ofNat 32 l.val = n then (∑ h : Fin 224, ∑ w : Fin 224, max ((∑ j : Fin 9, ∑ c : Fin 12, v103 (ix2 o ⟨j.val * 12 + c.val, by omega⟩)
          * v80 (ix3 c ⟨h.val + j.val / 3, by omega⟩ ⟨w.val + j.val % 3, by omega⟩)) + v106 (ix3 o 0 0)) 0) * ((1 / 50176 : ℝ) : EReal)
        else 0 := by
  unfold k0_pay19
  rw [place_apply, mean_apply]
  refine congrArg (fun z : EReal => if BitVec.ofNat 32 l.val = n then z * ((1 / 50176 : ℝ) : EReal) else 0) ?_
  refine Finset.sum_congr rfl fun h _ => Finset.sum_congr rfl fun w _ => ?_
  rw [cut2, addf_apply, product3, Fin.sum_univ_tiles 9 12 rfl]
  congr 2
  · refine Finset.sum_congr rfl fun j _ => Finset.sum_congr rfl fun c _ => ?_
    rw [stack_apply, shapeCast_self]
    exact congrArg _ (copies_apply v80 _ _ _ _ _ _ _ _ _ j c h w)
  · pointwise

/-- A layer's folded sum over real inputs is the layer's value. -/
theorem layer_real {C O : ℕ} (p : Params C O) (f : Fin C → Fin 224 → Fin 224 → ℝ) (A : Fin O → Fin 9 → Fin C → EReal)
    (X : Fin C → Fin 226 → Fin 256 → EReal) (B : Fin O → EReal)
    (hA : ∀ o j c, A o j c = ((p.W o c ⟨j.val / 3, by omega⟩ ⟨j.val % 3, by omega⟩ * p.s o : ℝ) : EReal))
    (hX : ∀ c y z, X c y z = ((border f c y.val z.val : ℝ) : EReal))
    (hB : ∀ o, B o = ((p.b o * p.s o + p.t o : ℝ) : EReal)) (o : Fin O) (h w : Fin 224) :
    max ((∑ j : Fin 9, ∑ c : Fin C, A o j c * X c ⟨h.val + j.val / 3, by omega⟩ ⟨w.val + j.val % 3, by omega⟩) + B o) 0
      = ((layer p f o h w : ℝ) : EReal) := by
  rw [← layer_folded, coe_max, EReal.coe_add, coe_sum, hB, EReal.coe_zero]
  refine congrArg (fun z : EReal => max (z + _) 0) (Finset.sum_congr rfl fun j _ => ?_)
  rw [coe_sum]
  exact Finset.sum_congr rfl fun c _ => by rw [hA, hX, ← EReal.coe_mul]

end

end Cert.Proof.KConv

end
-- ==== Proof.KStep.lean ====
/- One point of the grid over the real numbers: from one image to the borders of its layers and its channel means. -/
module

public import proofs.«01_k».proof.Proof.KCase
public import proofs.«01_k».proof.Proof.KConv

@[expose] public section

noncomputable section

namespace Cert.Proof.KStep

open Idealize Idealize.ShloMosaic Idealize.ShloMosaic.Pointwise
open Cert.KernelIdeal Cert.KernelIdeal.Gen
open Cert.Proof.Spec Cert.Proof.KCase Cert.Proof.KConv

local instance : Cert.KernelIdeal.Facts := Cert.KernelIdeal.Gen.facts

/-- A buffer with room for a border is zero outside the image. -/
def Blank {C : ℕ} (v : (⟨3, ![C, 226, 256]⟩ : Shape).Idx → EReal) : Prop :=
  ∀ (c : Fin C) (y : Fin 226) (z : Fin 256), ¬((1 ≤ y.val ∧ y.val ≤ 224) ∧ (1 ≤ z.val ∧ z.val ≤ 224)) → v (ix3 c y z) = 0

/-- A buffer holds an image with its border of zeros. -/
def Holds {C : ℕ} (v : (⟨3, ![C, 226, 256]⟩ : Shape).Idx → EReal) (f : Fin C → Fin 224 → Fin 224 → ℝ) : Prop :=
  ∀ (c : Fin C) (y : Fin 226) (z : Fin 256), v (ix3 c y z) = ((border f c y.val z.val : ℝ) : EReal)

/-- A buffer holding an image with its border is zero outside the image. -/
theorem Holds.blank {C : ℕ} {v : (⟨3, ![C, 226, 256]⟩ : Shape).Idx → EReal} {f : Fin C → Fin 224 → Fin 224 → ℝ} (h : Holds v f) :
    Blank v := fun c y z hh => by
  rw [h, border_outside f c y.val z.val hh]
  rfl

/-- Storing an image into the inside of a buffer that is zero outside it leaves the image with its border. -/
theorem overlay_holds {C : ℕ} (inb : ∀ a, (![0, 1, 1] : Fin 3 → ℕ) a + (![C, 224, 224] : Fin 3 → ℕ) a ≤ (⟨3, ![C, 226, 256]⟩ : Shape).size a)
    (old : (⟨3, ![C, 226, 256]⟩ : Shape).Idx → EReal) (w : (⟨3, ![C, 224, 224]⟩ : Shape).Idx → EReal)
    (f : Fin C → Fin 224 → Fin 224 → ℝ) (ho : Blank old) (hw : ∀ c h l, w (ix3 c h l) = ((f c h l : ℝ) : EReal)) :
    Holds ((Rect.unit (s := ⟨3, ![C, 226, 256]⟩) ![0, 1, 1] ![C, 224, 224] inb).overlay old w) f := by
  intro c y z
  by_cases hh : (1 ≤ y.val ∧ y.val ≤ 224) ∧ (1 ≤ z.val ∧ z.val ≤ 224)
  · have e : (ix3 c y z : (⟨3, ![C, 226, 256]⟩ : Shape).Idx) = (Rect.unit (s := ⟨3, ![C, 226, 256]⟩) ![0, 1, 1] ![C, 224, 224] inb).emb
        (ix3 c ⟨y.val - 1, by omega⟩ ⟨z.val - 1, by omega⟩ : (⟨3, ![C, 224, 224]⟩ : Shape).Idx) := by
      funext a
      apply Fin.ext
      match a with
      | ⟨0, _⟩ => show c.val = 0 + 1 * c.val; omega
      | ⟨1, _⟩ => show y.val = 1 + 1 * (y.val - 1); omega
      | ⟨2, _⟩ => show z.val = 1 + 1 * (z.val - 1); omega
    rw [e]
    refine (Rect.overlay_emb _ _ _ _).trans ((hw _ _ _).trans ?_)
    unfold border
    rw [dif_pos hh]
  · rw [border_outside f c y.val z.val hh, Rect.overlay_of_not_mem]
    · exact ho c y z hh
    · rw [Rect.mem_set_unit]
      intro hm
      have h1 := hm (1 : Fin 3)
      have h2 := hm (2 : Fin 3)
      have h1' : 1 ≤ y.val ∧ y.val < 1 + 224 := h1
      have h2' : 1 ≤ z.val ∧ z.val < 1 + 224 := h2
      omega

/-- The image of a block. -/
theorem pay15_apply (x0 : FVec Ideal S1x3x224x224 .f32) (c : Fin 3) (h w : Fin 224) :
    k0_pay15 x0 (ix3 c h w) = x0 (ix4 0 c h w) := by
  pointwise [k0_pay15]

/-- The first buffer starts as zeros. -/
theorem blank11 : Blank (C := 3) (k0_pay11 (F := Ideal)) := fun c y z _ => by
  show k0_pay11 (F := Ideal) (ix3 c y z) = 0
  pointwise [k0_pay11]

/-- The second buffer starts as zeros. -/
theorem blank12 : Blank (C := 6) (k0_pay12 (F := Ideal)) := fun c y z _ => by
  show k0_pay12 (F := Ideal) (ix3 c y z) = 0
  pointwise [k0_pay12]

/-- The third buffer starts as zeros. -/
theorem blank13 : Blank (C := 12) (k0_pay13 (F := Ideal)) := fun c y z _ => by
  show k0_pay13 (F := Ideal) (ix3 c y z) = 0
  pointwise [k0_pay13]

/-- The channel means start as zeros. -/
theorem pay14_apply (o : Fin 12) (l : Fin 128) : k0_pay14 (F := Ideal) (ix2 o l) = 0 := by
  pointwise [k0_pay14]

/-- The flattened filters of a layer with the scale folded in. -/
def Filters {C O N : ℕ} (hN : N = 9 * C) (p : Params C O) (A : (⟨2, ![O, N]⟩ : Shape).Idx → EReal) : Prop :=
  ∀ (o : Fin O) (j : Fin 9) (c : Fin C),
    A (ix2 o ⟨j.val * C + c.val, by
      subst hN
      have hj := j.isLt
      have hc := c.isLt
      calc j.val * C + c.val < j.val * C + C := by omega
        _ = (j.val + 1) * C := by ring
        _ ≤ 9 * C := Nat.mul_le_mul_right _ (by omega)⟩)
      = ((p.W o c ⟨j.val / 3, by omega⟩ ⟨j.val % 3, by omega⟩ * p.s o : ℝ) : EReal)

/-- The bias of a layer with the scale and the shift folded in. -/
def Bias {C O : ℕ} (p : Params C O) (B : (⟨3, ![O, 1, 1]⟩ : Shape).Idx → EReal) : Prop :=
  ∀ o : Fin O, B (ix3 o 0 0) = ((p.b o * p.s o + p.t o : ℝ) : EReal)

/-- The first buffer after a point: the image with its border. -/
theorem next0_holds (x0 : FVec Ideal S1x3x224x224 .f32) (xs0 : FVec Ideal S3x226x256 .f32) (f : Fin 3 → Fin 224 → Fin 224 → ℝ)
    (hx : ∀ c h w, x0 (ix4 0 c h w) = ((f c h w : ℝ) : EReal)) (hb : Blank (C := 3) xs0) : Holds (C := 3) (next0 (F := Ideal) x0 xs0) f :=
  overlay_holds _ _ _ f hb fun c h w => (pay15_apply x0 c h w).trans (hx c h w)

/-- The second buffer after a point: the first layer with its border. -/
theorem next1_holds (p : Params 3 6) (x2 : FVec Ideal S6x27 .f32) (x3 : FVec Ideal S6x1x1 .f32) (s0 : FVec Ideal S3x226x256 .f32)
    (xs1 : FVec Ideal S6x226x256 .f32) (f : Fin 3 → Fin 224 → Fin 224 → ℝ) (hA : Filters (C := 3) rfl p x2) (hB : Bias p x3)
    (hs : Holds (C := 3) s0 f) (hb : Blank (C := 6) xs1) : Holds (C := 6) (next1 (F := Ideal) x2 x3 s0 xs1) (layer p f) :=
  overlay_holds _ _ _ _ hb fun c h w => by
    refine (pay17_apply _ _ c h w).trans ?_
    rw [pay16_apply]
    have hz : (z0 (F := Ideal) : EReal) = 0 := by
      show Ideal.ofBits .f32 0x00000000#32 = 0
      simp [Ideal.ofBits, Ideal.ieee]
    rw [hz]
    exact layer_real p f (fun o j c => x2 (ix2 o ⟨j.val * 3 + c.val, by omega⟩)) (fun c y z => s0 (ix3 c y z)) (fun o => x3 (ix3 o 0 0))
      hA hs hB c h w

/-- The third buffer after a point: the second layer with its border. -/
theorem next2_holds (p : Params 6 12) (x4 : FVec Ideal S12x54 .f32) (x5 : FVec Ideal S12x1x1 .f32) (s1 : FVec Ideal S6x226x256 .f32)
    (xs2 : FVec Ideal S12x226x256 .f32) (f : Fin 6 → Fin 224 → Fin 224 → ℝ) (hA : Filters (C := 6) rfl p x4) (hB : Bias p x5)
    (hs : Holds (C := 6) s1 f) (hb : Blank (C := 12) xs2) : Holds (C := 12) (next2 (F := Ideal) x4 x5 s1 xs2) (layer p f) :=
  overlay_holds _ _ _ _ hb fun c h w => by
    refine (pay18_apply _ _ _ c h w).trans ?_
    exact layer_real p f (fun o j c => x4 (ix2 o ⟨j.val * 6 + c.val, by omega⟩)) (fun c y z => s1 (ix3 c y z)) (fun o => x5 (ix3 o 0 0))
      hA hs hB c h w

/-- The channel means after a point: the image's means are added to its column. -/
theorem next3_apply (p : Params 12 12) (n : BitVec 32) (x6 : FVec Ideal S12x108 .f32) (x7 : FVec Ideal S12x1x1 .f32)
    (s2 : FVec Ideal S12x226x256 .f32) (xs3 : FVec Ideal S12x128 .f32) (f : Fin 12 → Fin 224 → Fin 224 → ℝ)
    (hA : Filters (C := 12) rfl p x6) (hB : Bias p x7) (hs : Holds (C := 12) s2 f) (o : Fin 12) (l : Fin 128) :
    next3 (F := Ideal) n x6 x7 s2 xs3 (ix2 o l)
      = xs3 (ix2 o l) + (if BitVec.ofNat 32 l.val = n then ((pooled (layer p f) o : ℝ) : EReal) else 0) := by
  have e : next3 (F := Ideal) n x6 x7 s2 xs3 (ix2 o l) = xs3 (ix2 o l) + k0_pay19 (F := Ideal) n s2 x6 x7 (ix2 o l) := by
    unfold next3
    pointwise [k0_pay1]
  rw [e, pay19_apply]
  congr 1
  refine if_congr Iff.rfl ?_ rfl
  unfold pooled
  rw [EReal.coe_mul, coe_sum]
  congr 1
  refine Finset.sum_congr rfl fun h _ => ?_
  rw [coe_sum]
  exact Finset.sum_congr rfl fun w _ => layer_real p f (fun o j c => x6 (ix2 o ⟨j.val * 12 + c.val, by omega⟩)) (fun c y z => s2 (ix3 c y z))
    (fun o => x7 (ix3 o 0 0)) hA hs hB o h w

end Cert.Proof.KStep

end
-- ==== Proof.Params.lean ====
/- A layer's parameters as real numbers. -/
module

public import proofs.«01_k».proof.Proof.Spec
public import Idealize.ShloMosaic.Lib.Pointwise

@[expose] public section

noncomputable section

namespace Cert.Proof.Params

open Idealize Idealize.ShloMosaic
open Cert.Proof.Spec

/-- The square root of the variance's literal. -/
def root : EReal := Ideal.sqrt (Ideal.ofBits .f32 0x3F800054#32)

/-- The square root of the variance's literal is a real number that is not zero. -/
theorem root_real : ∃ r : ℝ, r ≠ 0 ∧ root = (r : EReal) := by
  have h : ∃ q : ℝ, 0 < q ∧ Ideal.ofBits .f32 0x3F800054#32 = (q : EReal) := by
    refine ⟨(2 : ℝ) ^ (-23 : ℤ) * 8388692, by positivity, ?_⟩
    simp [Ideal.ofBits, Ideal.ieee, -EReal.coe_mul]
    norm_num
  obtain ⟨q, hq, e⟩ := h
  refine ⟨Real.sqrt q, (Real.sqrt_pos.2 hq).ne', ?_⟩
  unfold root
  rw [e]
  show (if q < 0 then ⊥ else ((Real.sqrt q : ℝ) : EReal)) = _
  rw [if_neg (not_lt.2 hq.le)]

/-- The arrays `W`, `b`, `g` and `t` hold the real parameters `p`, the scale being `g` over the root. -/
structure Weights {C O : ℕ} (p : Params C O) (W : (⟨4, ![O, C, 3, 3]⟩ : Shape).Idx → EReal)
    (b g t : (⟨1, ![O]⟩ : Shape).Idx → EReal) : Prop where
  W : ∀ o c dy dx, W (ix4 o c dy dx) = (p.W o c dy dx : EReal)
  b : ∀ o, b (ix1 o) = (p.b o : EReal)
  s : ∀ o, Ideal.div (g (ix1 o)) root = (p.s o : EReal)
  t : ∀ o, t (ix1 o) = (p.t o : EReal)

/-- Real arrays hold real parameters. -/
theorem exists_weights {C O : ℕ} (W : (⟨4, ![O, C, 3, 3]⟩ : Shape).Idx → EReal)
    (b g t : (⟨1, ![O]⟩ : Shape).Idx → EReal) (hW : ∀ i, ∃ r : ℝ, W i = (r : EReal)) (hb : ∀ i, ∃ r : ℝ, b i = (r : EReal))
    (hg : ∀ i, ∃ r : ℝ, g i = (r : EReal)) (ht : ∀ i, ∃ r : ℝ, t i = (r : EReal)) :
    ∃ p : Params C O, Weights p W b g t := by
  choose W' hW using hW
  choose b' hb using hb
  choose g' hg using hg
  choose t' ht using ht
  obtain ⟨r, hr, er⟩ := root_real
  exact ⟨⟨fun o c dy dx => W' (ix4 o c dy dx), fun o => b' (ix1 o), fun o => g' (ix1 o) * (1 / r), fun o => t' (ix1 o)⟩,
    fun o c dy dx => hW _, fun o => hb _, fun o => by
      rw [er, Ideal.div_coe hr, hg, ← EReal.coe_mul], fun o => ht _⟩

/-- The layer in the order the reference takes it: nine taps added to zero, the bias, the scale, the shift, the rectifier. -/
theorem layer_chain {C O : ℕ} (p : Params C O) (f : Fin C → Fin 224 → Fin 224 → ℝ) (o : Fin O) (h w : Fin 224)
    (T : Fin 3 → Fin 3 → EReal) (hT : ∀ dy dx, T dy dx = (tap p.W f o h w dy dx : EReal)) (b s t : EReal)
    (hb : b = (p.b o : EReal)) (hs : s = (p.s o : EReal)) (ht : t = (p.t o : EReal)) :
    max ((((((((((((0 + T 0 0) + T 0 1) + T 0 2) + T 1 0) + T 1 1) + T 1 2) + T 2 0) + T 2 1) + T 2 2) + b) * s) + t) 0
      = (layer p f o h w : EReal) := by
  rw [hT, hT, hT, hT, hT, hT, hT, hT, hT, hb, hs, ht]
  unfold layer
  rw [← conv_chain, coe_max]
  simp only [EReal.coe_add, EReal.coe_mul, EReal.coe_zero]

/-- An image's logits, minus infinity where the mask is zero. -/
def row (N : Net) (k : (⟨2, ![128, 16]⟩ : Shape).Idx → BitVec 32) (g : (⟨2, ![16, 12]⟩ : Shape).Idx → EReal)
    (b : (⟨1, ![16]⟩ : Shape).Idx → EReal) (n : Fin 128) (e : Fin 16) : EReal :=
  if k (ix2 n e) = 0#32 then ⊥ else (∑ j : Fin 12, g (ix2 e j) * (N.mean n j : EReal)) + b (ix1 e)

end Cert.Proof.Params

end

end
-- ==== Proof.KHost.lean ====
/- The arrays the host prepares for the kernel, as functions of the arguments. -/
module

public import proofs.«01_k».proof.Proof.KStep
public import proofs.«01_k».proof.Proof.Params
public import Idealize.ShloMosaic.Lib.Claim

@[expose] public section

noncomputable section

namespace Cert.Proof.KHost

open Idealize Idealize.ShloMosaic Idealize.ShloMosaic.Pointwise Idealize.SL
open Cert.KernelIdeal Cert.KernelIdeal.Gen
open Cert.Proof.Params

local instance : Cert.KernelIdeal.Facts := Cert.KernelIdeal.Gen.facts

/-- The scale of layer 1's channels. -/
def scale1 (g : FVec Ideal S6 .f32) : FVec Ideal S6 .f32 :=
  Host.divf g (broadcastInDim S6 ![] bcast_S_S6 (Host.sqrt (constant S_ .f32 0x3F800054#32)))

/-- Layer 1's scale, read at a channel. -/
theorem scale1_apply (g : FVec Ideal S6 .f32) (o : Fin 6) : scale1 g (ix1 o) = Ideal.div (g (ix1 o)) root := by
  unfold scale1
  pointwise
  rfl

/-- Layer 1's flattened filters. -/
def filters1 (W : FVec Ideal S6x3x3x3 .f32) (g : FVec Ideal S6 .f32) : FVec Ideal S6x27 .f32 :=
  shapeCast S6x27 (transpose S6x3x3x3 [0, 2, 3, 1] (mulf W (broadcastInDim S6x3x3x3 ![0, 1, 2, 3] bcast_S6x1x1x1_S6x3x3x3_0_1_2_3
    (broadcastInDim S6x1x1x1 ![0] bcast_S6_S6x1x1x1_0 (scale1 g)))) transposes_S6x3x3x3_S6x3x3x3_0_2_3_1) shapeCasts_S6x3x3x3_S6x27

/-- Layer 1's flattened filters, read at a tap and a channel. -/
theorem filters1_apply (W : FVec Ideal S6x3x3x3 .f32) (g : FVec Ideal S6 .f32) (o : Fin 6) (j : Fin 9) (c : Fin 3) :
    filters1 W g (ix2 o ⟨j.val * 3 + c.val, by omega⟩)
      = W (ix4 o c ⟨j.val / 3, by omega⟩ ⟨j.val % 3, by omega⟩) * Ideal.div (g (ix1 o)) root := by
  rw [← scale1_apply]
  unfold filters1
  pointwise
  congr 2
  exact congrArg₂ (ix4 o c) (Fin.ext (by show _ / _ = j.val / 3; omega)) (Fin.ext (by show _ % _ = j.val % 3; omega))

/-- Layer 1's bias and shift. -/
def bias1 (b g t : FVec Ideal S6 .f32) : FVec Ideal S6x1x1 .f32 :=
  broadcastInDim S6x1x1 ![0] bcast_S6_S6x1x1_0 (addf (mulf b (scale1 g)) t)

/-- Layer 1's bias and shift, read at a channel. -/
theorem bias1_apply (b g t : FVec Ideal S6 .f32) (o : Fin 6) :
    bias1 b g t (ix3 o 0 0) = b (ix1 o) * Ideal.div (g (ix1 o)) root + t (ix1 o) := by
  rw [← scale1_apply]
  unfold bias1
  pointwise

/-- The scale of layer 2's channels. -/
def scale2 (g : FVec Ideal S12 .f32) : FVec Ideal S12 .f32 :=
  Host.divf g (broadcastInDim S12 ![] bcast_S_S12 (Host.sqrt (constant S_ .f32 0x3F800054#32)))

/-- Layer 2's scale, read at a channel. -/
theorem scale2_apply (g : FVec Ideal S12 .f32) (o : Fin 12) : scale2 g (ix1 o) = Ideal.div (g (ix1 o)) root := by
  unfold scale2
  pointwise
  rfl

/-- Layer 2's flattened filters. -/
def filters2 (W : FVec Ideal S12x6x3x3 .f32) (g : FVec Ideal S12 .f32) : FVec Ideal S12x54 .f32 :=
  shapeCast S12x54 (transpose S12x3x3x6 [0, 2, 3, 1] (mulf W (broadcastInDim S12x6x3x3 ![0, 1, 2, 3] bcast_S12x1x1x1_S12x6x3x3_0_1_2_3
    (broadcastInDim S12x1x1x1 ![0] bcast_S12_S12x1x1x1_0 (scale2 g)))) transposes_S12x6x3x3_S12x3x3x6_0_2_3_1) shapeCasts_S12x3x3x6_S12x54

/-- Layer 2's flattened filters, read at a tap and a channel. -/
theorem filters2_apply (W : FVec Ideal S12x6x3x3 .f32) (g : FVec Ideal S12 .f32) (o : Fin 12) (j : Fin 9) (c : Fin 6) :
    filters2 W g (ix2 o ⟨j.val * 6 + c.val, by omega⟩)
      = W (ix4 o c ⟨j.val / 3, by omega⟩ ⟨j.val % 3, by omega⟩) * Ideal.div (g (ix1 o)) root := by
  rw [← scale2_apply]
  unfold filters2
  pointwise
  congr 2
  exact congrArg₂ (ix4 o c) (Fin.ext (by show _ / _ = j.val / 3; omega)) (Fin.ext (by show _ % _ = j.val % 3; omega))

/-- Layer 2's bias and shift. -/
def bias2 (b g t : FVec Ideal S12 .f32) : FVec Ideal S12x1x1 .f32 :=
  broadcastInDim S12x1x1 ![0] bcast_S12_S12x1x1_0 (addf (mulf b (scale2 g)) t)

/-- Layer 2's bias and shift, read at a channel. -/
theorem bias2_apply (b g t : FVec Ideal S12 .f32) (o : Fin 12) :
    bias2 b g t (ix3 o 0 0) = b (ix1 o) * Ideal.div (g (ix1 o)) root + t (ix1 o) := by
  rw [← scale2_apply]
  unfold bias2
  pointwise

/-- The scale of layer 3's channels. -/
def scale3 (g : FVec Ideal S12 .f32) : FVec Ideal S12 .f32 :=
  Host.divf g (broadcastInDim S12 ![] bcast_S_S12 (Host.sqrt (constant S_ .f32 0x3F800054#32)))

/-- Layer 3's scale, read at a channel. -/
theorem scale3_apply (g : FVec Ideal S12 .f32) (o : Fin 12) : scale3 g (ix1 o) = Ideal.div (g (ix1 o)) root := by
  unfold scale3
  pointwise
  rfl

/-- Layer 3's flattened filters. -/
def filters3 (W : FVec Ideal S12x12x3x3 .f32) (g : FVec Ideal S12 .f32) : FVec Ideal S12x108 .f32 :=
  shapeCast S12x108 (transpose S12x3x3x12 [0, 2, 3, 1] (mulf W (broadcastInDim S12x12x3x3 ![0, 1, 2, 3] bcast_S12x1x1x1_S12x12x3x3_0_1_2_3
    (broadcastInDim S12x1x1x1 ![0] bcast_S12_S12x1x1x1_0 (scale3 g)))) transposes_S12x12x3x3_S12x3x3x12_0_2_3_1) shapeCasts_S12x3x3x12_S12x108

/-- Layer 3's flattened filters, read at a tap and a channel. -/
theorem filters3_apply (W : FVec Ideal S12x12x3x3 .f32) (g : FVec Ideal S12 .f32) (o : Fin 12) (j : Fin 9) (c : Fin 12) :
    filters3 W g (ix2 o ⟨j.val * 12 + c.val, by omega⟩)
      = W (ix4 o c ⟨j.val / 3, by omega⟩ ⟨j.val % 3, by omega⟩) * Ideal.div (g (ix1 o)) root := by
  rw [← scale3_apply]
  unfold filters3
  pointwise
  congr 2
  exact congrArg₂ (ix4 o c) (Fin.ext (by show _ / _ = j.val / 3; omega)) (Fin.ext (by show _ % _ = j.val % 3; omega))

/-- Layer 3's bias and shift. -/
def bias3 (b g t : FVec Ideal S12 .f32) : FVec Ideal S12x1x1 .f32 :=
  broadcastInDim S12x1x1 ![0] bcast_S12_S12x1x1_0 (addf (mulf b (scale3 g)) t)

/-- Layer 3's bias and shift, read at a channel. -/
theorem bias3_apply (b g t : FVec Ideal S12 .f32) (o : Fin 12) :
    bias3 b g t (ix3 o 0 0) = b (ix1 o) * Ideal.div (g (ix1 o)) root + t (ix1 o) := by
  rw [← scale3_apply]
  unfold bias3
  pointwise

variable (m : (ℓ : Loc nD τ sig) → Buf (Elt Ideal) ℓ) (c : Dev nD)

/-- The mask the kernel is given. -/
theorem V_mask : V m c main_v37 = transpose S16x128 [1, 0] (m ((c.tc : Thread nD τ).loc main_arg1)) transposes_S128x16_S16x128_1_0 := by
  rfl

/-- The gate's bias the kernel is given. -/
theorem V_gate : V m c main_v36 = broadcastInDim S16x1 ![0] bcast_S16_S16x1_0 (m ((c.tc : Thread nD τ).loc main_arg15)) := by
  rfl

/-- Layer 1's filters the kernel is given. -/
theorem V_filters1 : V m c main_v8 = filters1 (m ((c.tc : Thread nD τ).loc main_arg2)) (m ((c.tc : Thread nD τ).loc main_arg4)) := by
  rfl

/-- Layer 1's bias the kernel is given. -/
theorem V_bias1 : V m c main_v11 = bias1 (m ((c.tc : Thread nD τ).loc main_arg3)) (m ((c.tc : Thread nD τ).loc main_arg4)) (m ((c.tc : Thread nD τ).loc main_arg5)) := by
  rfl

/-- Layer 2's filters the kernel is given. -/
theorem V_filters2 : V m c main_v20 = filters2 (m ((c.tc : Thread nD τ).loc main_arg6)) (m ((c.tc : Thread nD τ).loc main_arg8)) := by
  rfl

/-- Layer 2's bias the kernel is given. -/
theorem V_bias2 : V m c main_v23 = bias2 (m ((c.tc : Thread nD τ).loc main_arg7)) (m ((c.tc : Thread nD τ).loc main_arg8)) (m ((c.tc : Thread nD τ).loc main_arg9)) := by
  rfl

/-- Layer 3's filters the kernel is given. -/
theorem V_filters3 : V m c main_v32 = filters3 (m ((c.tc : Thread nD τ).loc main_arg10)) (m ((c.tc : Thread nD τ).loc main_arg12)) := by
  rfl

/-- Layer 3's bias the kernel is given. -/
theorem V_bias3 : V m c main_v35 = bias3 (m ((c.tc : Thread nD τ).loc main_arg11)) (m ((c.tc : Thread nD τ).loc main_arg12)) (m ((c.tc : Thread nD τ).loc main_arg13)) := by
  rfl

end Cert.Proof.KHost

end
-- ==== Proof.KArray.lean ====
/- The kernel's run over the real numbers: what the scratch buffers hold after every point, and what the outputs receive. -/
module

public import proofs.«01_k».proof.Proof.KHost

@[expose] public section

noncomputable section

namespace Cert.Proof.KArray

open Idealize Idealize.ShloMosaic Idealize.ShloMosaic.Pointwise Idealize.SL
open Cert.KernelIdeal Cert.KernelIdeal.Gen
open Cert.Proof.Spec Cert.Proof.KCase Cert.Proof.KConv Cert.Proof.KStep Cert.Proof.KHost

local instance : Cert.KernelIdeal.Facts := Cert.KernelIdeal.Gen.facts

variable (m : (ℓ : Loc nD τ sig) → Buf (Elt Ideal) ℓ) (c : Dev nD)

/-- The arrays the kernel is given hold these images and parameters. -/
structure Given (N : Net) : Prop where
  x : ∀ n ch h w, V m c main_arg0 (ix4 n ch h w) = ((N.x n ch h w : ℝ) : EReal)
  f1 : Filters (C := 3) rfl N.p1 (V m c main_v8)
  b1 : Bias N.p1 (V m c main_v11)
  f2 : Filters (C := 6) rfl N.p2 (V m c main_v20)
  b2 : Bias N.p2 (V m c main_v23)
  f3 : Filters (C := 12) rfl N.p3 (V m c main_v32)
  b3 : Bias N.p3 (V m c main_v35)

/-- The grid's coordinate is the point. -/
theorem coords_val : ∀ t : Fin cfg0.N, (grid0.coords t 0).val = t.val :=
  (by decide +kernel : ∀ t : Fin grid0.N, (grid0.coords t 0).val = t.val)

/-- The image window's block is the point's. -/
theorem index0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)

/-- The image window's block, read at an index. -/
theorem iblk0_apply (t : Fin cfg0.N) (n : Fin 128) (hn : n.val = t.val) (ch : Fin 3) (h w : Fin 224) :
    (iblk m c 0 t : FVec Ideal S1x3x224x224 .f32) (ix4 0 ch h w) = V m c main_arg0 (ix4 n ch h w) := by
  obtain ⟨i0, i1, i2, i3⟩ := index0 t
  unfold iblk
  rw [View.read_apply]
  show V m c main_arg0 _ = _
  congr 1
  funext a
  apply Fin.ext
  match a with
  | ⟨0, _⟩ => show win0_0.index t 0 * 1 + 1 * 0 = n.val; omega
  | ⟨1, _⟩ => show win0_0.index t 1 * 3 + 1 * ch.val = ch.val; rw [i1]; omega
  | ⟨2, _⟩ => show win0_0.index t 2 * 224 + 1 * h.val = h.val; rw [i2]; omega
  | ⟨3, _⟩ => show win0_0.index t 3 * 224 + 1 * w.val = w.val; rw [i3]; omega

/-- Window 1's block is its whole array. -/
theorem iblk1 (t : Fin cfg0.N) : (iblk m c 1 t : Vec Ideal S16x128 .i32) = V m c main_v37 := by
  have hz : (fun a => win0_1.index t a * main_v37.ty.shape.size a) = fun _ => 0 := funext fun a => by fin_cases a <;> rfl
  exact Memref.read_access_unit_zero (Elt Ideal) main_v37 hz (fun a => by rw [congrFun hz a]; simp) (V m c main_v37)

/-- Window 2's block is its whole array. -/
theorem iblk2 (t : Fin cfg0.N) : (iblk m c 2 t : Vec Ideal S6x27 .f32) = V m c main_v8 := by
  have hz : (fun a => win0_2.index t a * main_v8.ty.shape.size a) = fun _ => 0 := funext fun a => by fin_cases a <;> rfl
  exact Memref.read_access_unit_zero (Elt Ideal) main_v8 hz (fun a => by rw [congrFun hz a]; simp) (V m c main_v8)

/-- Window 3's block is its whole array. -/
theorem iblk3 (t : Fin cfg0.N) : (iblk m c 3 t : Vec Ideal S6x1x1 .f32) = V m c main_v11 := by
  have hz : (fun a => win0_3.index t a * main_v11.ty.shape.size a) = fun _ => 0 := funext fun a => by fin_cases a <;> rfl
  exact Memref.read_access_unit_zero (Elt Ideal) main_v11 hz (fun a => by rw [congrFun hz a]; simp) (V m c main_v11)

/-- Window 4's block is its whole array. -/
theorem iblk4 (t : Fin cfg0.N) : (iblk m c 4 t : Vec Ideal S12x54 .f32) = V m c main_v20 := by
  have hz : (fun a => win0_4.index t a * main_v20.ty.shape.size a) = fun _ => 0 := funext fun a => by fin_cases a <;> rfl
  exact Memref.read_access_unit_zero (Elt Ideal) main_v20 hz (fun a => by rw [congrFun hz a]; simp) (V m c main_v20)

/-- Window 5's block is its whole array. -/
theorem iblk5 (t : Fin cfg0.N) : (iblk m c 5 t : Vec Ideal S12x1x1 .f32) = V m c main_v23 := by
  have hz : (fun a => win0_5.index t a * main_v23.ty.shape.size a) = fun _ => 0 := funext fun a => by fin_cases a <;> rfl
  exact Memref.read_access_unit_zero (Elt Ideal) main_v23 hz (fun a => by rw [congrFun hz a]; simp) (V m c main_v23)

/-- Window 6's block is its whole array. -/
theorem iblk6 (t : Fin cfg0.N) : (iblk m c 6 t : Vec Ideal S12x108 .f32) = V m c main_v32 := by
  have hz : (fun a => win0_6.index t a * main_v32.ty.shape.size a) = fun _ => 0 := funext fun a => by fin_cases a <;> rfl
  exact Memref.read_access_unit_zero (Elt Ideal) main_v32 hz (fun a => by rw [congrFun hz a]; simp) (V m c main_v32)

/-- Window 7's block is its whole array. -/
theorem iblk7 (t : Fin cfg0.N) : (iblk m c 7 t : Vec Ideal S12x1x1 .f32) = V m c main_v35 := by
  have hz : (fun a => win0_7.index t a * main_v35.ty.shape.size a) = fun _ => 0 := funext fun a => by fin_cases a <;> rfl
  exact Memref.read_access_unit_zero (Elt Ideal) main_v35 hz (fun a => by rw [congrFun hz a]; simp) (V m c main_v35)

/-- Window 8's block is its whole array. -/
theorem iblk8 (t : Fin cfg0.N) : (iblk m c 8 t : Vec Ideal S16x12 .f32) = V m c main_arg14 := by
  have hz : (fun a => win0_8.index t a * main_arg14.ty.shape.size a) = fun _ => 0 := funext fun a => by fin_cases a <;> rfl
  exact Memref.read_access_unit_zero (Elt Ideal) main_arg14 hz (fun a => by rw [congrFun hz a]; simp) (V m c main_arg14)

/-- Window 9's block is its whole array. -/
theorem iblk9 (t : Fin cfg0.N) : (iblk m c 9 t : Vec Ideal S16x1 .f32) = V m c main_v36 := by
  have hz : (fun a => win0_9.index t a * main_v36.ty.shape.size a) = fun _ => 0 := funext fun a => by fin_cases a <;> rfl
  exact Memref.read_access_unit_zero (Elt Ideal) main_v36 hz (fun a => by rw [congrFun hz a]; simp) (V m c main_v36)

/-- What the scratch buffers hold after the point of an image: the borders of the image and of its first two layers, and
    the channel means of the images up to it. -/
structure After (N : Net) (n : Fin 128) (s0 : FVec Ideal S3x226x256 .f32) (s1 : FVec Ideal S6x226x256 .f32)
    (s2 : FVec Ideal S12x226x256 .f32) (s3 : FVec Ideal S12x128 .f32) : Prop where
  h0 : Holds (C := 3) s0 (N.x n)
  h1 : Holds (C := 6) s1 (layer N.p1 (N.x n))
  h2 : Holds (C := 12) s2 (layer N.p2 (layer N.p1 (N.x n)))
  h3 : ∀ (o : Fin 12) (l : Fin 128), s3 (ix2 o l) = if l.val ≤ n.val then ((N.mean l o : ℝ) : EReal) else 0

/-- One point's step from scratch buffers that are zero outside the images and hold the means of the images before it. -/
theorem step (N : Net) (G : Given m c N) (t : Fin cfg0.N) (n : Fin 128) (hn : n.val = t.val)
    (xs0 : FVec Ideal S3x226x256 .f32) (xs1 : FVec Ideal S6x226x256 .f32) (xs2 : FVec Ideal S12x226x256 .f32) (xs3 : FVec Ideal S12x128 .f32)
    (e0 : Blank (C := 3) xs0) (e1 : Blank (C := 6) xs1) (e2 : Blank (C := 12) xs2)
    (e3 : ∀ (o : Fin 12) (l : Fin 128), xs3 (ix2 o l) = if l.val < n.val then ((N.mean l o : ℝ) : EReal) else 0) :
    After N n (next0 (iblk m c 0 t) xs0) (next1 (iblk m c 2 t) (iblk m c 3 t) (next0 (iblk m c 0 t) xs0) xs1)
      (next2 (iblk m c 4 t) (iblk m c 5 t) (next1 (iblk m c 2 t) (iblk m c 3 t) (next0 (iblk m c 0 t) xs0) xs1) xs2)
      (next3 (BitVec.ofNat 32 (grid0.coords t 0).val) (iblk m c 6 t) (iblk m c 7 t)
        (next2 (iblk m c 4 t) (iblk m c 5 t) (next1 (iblk m c 2 t) (iblk m c 3 t) (next0 (iblk m c 0 t) xs0) xs1) xs2) xs3) := by
  have H0 : Holds (C := 3) (next0 (F := Ideal) (iblk m c 0 t) xs0) (N.x n) :=
    next0_holds _ _ _ (fun ch h w => (iblk0_apply m c t n hn ch h w).trans (G.x n ch h w)) e0
  have H1 := next1_holds N.p1 (iblk m c 2 t) (iblk m c 3 t) _ xs1 _ ((iblk2 m c t).symm ▸ G.f1) ((iblk3 m c t).symm ▸ G.b1) H0 e1
  have H2 := next2_holds N.p2 (iblk m c 4 t) (iblk m c 5 t) _ xs2 _ ((iblk4 m c t).symm ▸ G.f2) ((iblk5 m c t).symm ▸ G.b2) H1 e2
  refine ⟨H0, H1, H2, fun o l => ?_⟩
  have H3 := next3_apply N.p3 (BitVec.ofNat 32 (grid0.coords t 0).val) (iblk m c 6 t) (iblk m c 7 t) _ xs3 _
    ((iblk6 m c t).symm ▸ G.f3) ((iblk7 m c t).symm ▸ G.b3) H2 o l
  refine H3.trans ?_
  have hl := l.isLt
  have hn' := n.isLt
  rw [e3, coords_val, ← hn]
  have hq : BitVec.ofNat 32 l.val = BitVec.ofNat 32 n.val ↔ l.val = n.val := by
    rw [← BitVec.toNat_inj]
    simp only [BitVec.toNat_ofNat]
    omega
  by_cases h1 : l.val = n.val
  · rw [if_neg (by omega), if_pos (hq.mpr h1), if_pos (by omega), zero_add]
    obtain rfl : l = n := Fin.ext h1
    rfl
  · rw [if_neg (fun h => h1 (hq.mp h)), add_zero]
    exact if_congr (by omega) rfl rfl

/-- The scratch buffers after every point. -/
theorem after_all (N : Net) (G : Given m c N) : ∀ (n : ℕ) (h : n < cfg0.N) (i : Fin 128), i.val = n →
    After N i (outsAt0 m c n h).2.2.1 (outsAt0 m c n h).2.2.2.1 (outsAt0 m c n h).2.2.2.2.1 (outsAt0 m c n h).2.2.2.2.2
  | 0, h, i, hi => by
    have e := outsAt0_A m c ⟨0, h⟩ rfl (by dsimp only; omega)
    dsimp only at e
    rw [e]
    dsimp only
    rw [first0, first1, first2, first3]
    exact step m c N G ⟨0, h⟩ i hi _ _ _ _ blank11 blank12 blank13 fun o l => by
      rw [if_neg (by omega)]
      exact pay14_apply o l
  | n + 1, h, i, hi => by
    have hN : cfg0.N = 128 := N_0
    have hB : ¬(⟨n + 1, h⟩ : Fin cfg0.N).val % 128 = 0 := by dsimp only; omega
    have hp := after_all N G n (by omega) ⟨n, by omega⟩ rfl
    have e3 : ∀ (o : Fin 12) (l : Fin 128), (outsAt0 m c n (by omega)).2.2.2.2.2 (ix2 o l)
        = if l.val < i.val then ((N.mean l o : ℝ) : EReal) else 0 := fun o l => by
      rw [hp.h3]
      exact if_congr (by dsimp only; omega) rfl rfl
    by_cases hC : (⟨n + 1, h⟩ : Fin cfg0.N).val % 128 = 127
    · have e := outsAt0_C m c ⟨n + 1, h⟩ hB hC
      dsimp only at e
      rw [e]
      dsimp only
      rw [last0, last1, last2, last3]
      exact step m c N G ⟨n + 1, h⟩ i hi _ _ _ _ hp.h0.blank hp.h1.blank hp.h2.blank e3
    · have e := outsAt0_B m c ⟨n + 1, h⟩ hB hC
      dsimp only at e
      rw [e]
      dsimp only
      rw [mid0, mid1, mid2, mid3]
      exact step m c N G ⟨n + 1, h⟩ i hi _ _ _ _ hp.h0.blank hp.h1.blank hp.h2.blank e3

/-- The last point's routing uses the channel means of all the images. -/
theorem last_out (N : Net) (G : Given m c N) (t : Fin cfg0.N) (ht : t.val = 127) :
    ∃ pool : FVec Ideal S12x128 .f32, (∀ (o : Fin 12) (l : Fin 128), pool (ix2 o l) = ((N.mean l o : ℝ) : EReal))
      ∧ (outsAt0 m c t.val t.isLt).1 = weights (V m c main_arg14) pool (V m c main_v37) (V m c main_v36)
      ∧ (outsAt0 m c t.val t.isLt).2.1 = k0_pay5 (V m c main_arg14) pool (V m c main_v37) (V m c main_v36) := by
  have ha := after_all m c N G t.val t.isLt ⟨127, by decide⟩ ht.symm
  refine ⟨(outsAt0 m c t.val t.isLt).2.2.2.2.2, fun o l => ?_, ?_, ?_⟩
  · rw [ha.h3, if_pos (by have := l.isLt; dsimp only; omega)]
  · rw [outsAt0_C m c t (by omega) (by omega)]
    dsimp only
    rw [last3, last_sparse, iblk8, iblk1, iblk9]
  · rw [outsAt0_C m c t (by omega) (by omega)]
    dsimp only
    rw [last3, last_probs, iblk8, iblk1, iblk9]

end Cert.Proof.KArray

end
-- ==== Proof.KFinal.lean ====
/- The kernel's result buffers after the run. -/
module

public import proofs.«01_k».proof.Proof.KArray

@[expose] public section

noncomputable section

namespace Cert.Proof.KFinal

open Idealize Idealize.ShloMosaic Idealize.ShloMosaic.Pipeline Idealize.SL
open Cert.KernelIdeal Cert.KernelIdeal.Gen

local instance : Cert.KernelIdeal.Facts := Cert.KernelIdeal.Gen.facts

variable (m : (ℓ : Loc nD τ sig) → Buf (Elt Ideal) ℓ) (ρ : Dev nD → PrngReg) (c : Dev nD)

/-- The arrays' references are different ones. -/
theorem arrays_inj : Function.Injective (Pipeline.arrRef spec0) := by decide

/-- The block of the weights is the whole array. -/
theorem whole10 (t : Fin cfg0.N) (R : Buf (Elt Ideal) ((c.tc : Thread nD τ).loc main_v38_0)) :
    (cfg0.win 10).cut (grid0.coords t) R = ((cfg0.win 10).blk t).view.read (Elt Ideal) R := by
  have hz : (fun a => win0_10.index t a * main_v38_0.ty.shape.size a) = fun _ => 0 := funext fun a => by fin_cases a <;> rfl
  exact (Memref.read_access_unit_zero (Elt Ideal) main_v38_0 hz (fun a => by rw [congrFun hz a]; simp) R).symm

/-- The one write-back of the weights writes the last point's. -/
theorem flushed10 (R : Buf (Elt Ideal) ((c.tc : Thread nD τ).loc main_v38_0))
    (hR : ∀ t : Fin cfg0.N, t.val = 127 → (dats m 0 c).after 10 t = R) (t : Fin cfg0.N) (hf : (cfg0.win 10).flush t = true) :
    (dats m 0 c).flushed 10 t = ((cfg0.win 10).blk t).view.read (Elt Ideal) R := by
  have hN : cfg0.N = 128 := N_0
  have h3 : t.val = 127 := by have := (flush0_10 t).mp hf; have := t.isLt; omega
  show (cfg0.win 10).cut (grid0.coords t) ((dats m 0 c).after 10 t) = _
  rw [hR t h3]
  exact whole10 c t R

/-- Every element of the array of the weights is written by the last point. -/
theorem covered10 (t : Fin cfg0.N) (i : main_v38_0.ty.shape.Idx) : i ∈ ((View.whole main_v38_0).slice (win0_10.rect t)).set := by
  rw [View.set_slice_whole, Rect.mem_set_unit]
  intro a
  have h0 : (i 0 : Nat) < 16 := (i 0).isLt
  have h1 : (i 1 : Nat) < 128 := (i 1).isLt
  match a with
  | ⟨0, _⟩ =>
    show win0_10.index t 0 * win0_10.size 0 ≤ (i 0 : Nat) ∧ (i 0 : Nat) < win0_10.index t 0 * win0_10.size 0 + win0_10.xsize (grid0.coords t) 0
    rw [show win0_10.index t 0 * win0_10.size 0 = 0 from rfl, show win0_10.xsize (grid0.coords t) 0 = 16 from rfl]
    omega
  | ⟨1, _⟩ =>
    show win0_10.index t 1 * win0_10.size 1 ≤ (i 1 : Nat) ∧ (i 1 : Nat) < win0_10.index t 1 * win0_10.size 1 + win0_10.xsize (grid0.coords t) 1
    rw [show win0_10.index t 1 * win0_10.size 1 = 0 from rfl, show win0_10.xsize (grid0.coords t) 1 = 128 from rfl]
    omega

/-- The array of the weights after the run. -/
theorem final10 (R : Buf (Elt Ideal) ((c.tc : Thread nD τ).loc main_v38_0))
    (hR : ∀ t : Fin cfg0.N, t.val = 127 → (dats m 0 c).after 10 t = R) : (dats m 0 c).arrAt 10 cfg0.N = R := by
  obtain ⟨t, ht⟩ : ∃ t : Fin cfg0.N, t.val = 127 := ⟨⟨127, by rw [show cfg0.N = 128 from N_0]; decide⟩, rfl⟩
  exact (dats m 0 c).arrAt_eq_of_cover 10 R (flushed10 m c R hR) fun i => ⟨t, (flush0_10 t).mpr (by omega), covered10 t i⟩

/-- The host's transposition of the weights after the kernel. -/
theorem tail10 (R : Buf (Elt Ideal) ((c.tc : Thread nD τ).loc main_v38_0))
    (hR : ∀ t : Fin cfg0.N, t.val = 127 → (dats m 0 c).after 10 t = R) :
    Pipeline.afterTail₀ cfgs (dats m) 0 (V0 m) [hostOps1] c main_v39
    = transpose S128x16 [1, 0] (R : FVec Ideal S16x128 .f32) transposes_S16x128_S128x16_1_0 := by
  unfold Pipeline.afterTail₀
  have e := (Pipeline.withArrays_arr spec0 arrays_inj c (V0 m c) (fun w => (dats m 0 c).arrAt w cfg0.N) 10).trans (final10 m c R hR)
  refine Eq.trans ?_ (congrArg (fun v : FVec Ideal S16x128 .f32 => transpose S128x16 [1, 0] v transposes_S16x128_S128x16_1_0) e)
  generalize Pipeline.withArrays spec0 c (V0 m c) (fun w => (dats m 0 c).arrAt w cfg0.N) = V'
  rfl

/-- The block of the probabilities is the whole array. -/
theorem whole11 (t : Fin cfg0.N) (R : Buf (Elt Ideal) ((c.tc : Thread nD τ).loc main_v38_1)) :
    (cfg0.win 11).cut (grid0.coords t) R = ((cfg0.win 11).blk t).view.read (Elt Ideal) R := by
  have hz : (fun a => win0_11.index t a * main_v38_1.ty.shape.size a) = fun _ => 0 := funext fun a => by fin_cases a <;> rfl
  exact (Memref.read_access_unit_zero (Elt Ideal) main_v38_1 hz (fun a => by rw [congrFun hz a]; simp) R).symm

/-- The one write-back of the probabilities writes the last point's. -/
theorem flushed11 (R : Buf (Elt Ideal) ((c.tc : Thread nD τ).loc main_v38_1))
    (hR : ∀ t : Fin cfg0.N, t.val = 127 → (dats m 0 c).after 11 t = R) (t : Fin cfg0.N) (hf : (cfg0.win 11).flush t = true) :
    (dats m 0 c).flushed 11 t = ((cfg0.win 11).blk t).view.read (Elt Ideal) R := by
  have hN : cfg0.N = 128 := N_0
  have h3 : t.val = 127 := by have := (flush0_11 t).mp hf; have := t.isLt; omega
  show (cfg0.win 11).cut (grid0.coords t) ((dats m 0 c).after 11 t) = _
  rw [hR t h3]
  exact whole11 c t R

/-- Every element of the array of the probabilities is written by the last point. -/
theorem covered11 (t : Fin cfg0.N) (i : main_v38_1.ty.shape.Idx) : i ∈ ((View.whole main_v38_1).slice (win0_11.rect t)).set := by
  rw [View.set_slice_whole, Rect.mem_set_unit]
  intro a
  have h0 : (i 0 : Nat) < 16 := (i 0).isLt
  have h1 : (i 1 : Nat) < 128 := (i 1).isLt
  match a with
  | ⟨0, _⟩ =>
    show win0_11.index t 0 * win0_11.size 0 ≤ (i 0 : Nat) ∧ (i 0 : Nat) < win0_11.index t 0 * win0_11.size 0 + win0_11.xsize (grid0.coords t) 0
    rw [show win0_11.index t 0 * win0_11.size 0 = 0 from rfl, show win0_11.xsize (grid0.coords t) 0 = 16 from rfl]
    omega
  | ⟨1, _⟩ =>
    show win0_11.index t 1 * win0_11.size 1 ≤ (i 1 : Nat) ∧ (i 1 : Nat) < win0_11.index t 1 * win0_11.size 1 + win0_11.xsize (grid0.coords t) 1
    rw [show win0_11.index t 1 * win0_11.size 1 = 0 from rfl, show win0_11.xsize (grid0.coords t) 1 = 128 from rfl]
    omega

/-- The array of the probabilities after the run. -/
theorem final11 (R : Buf (Elt Ideal) ((c.tc : Thread nD τ).loc main_v38_1))
    (hR : ∀ t : Fin cfg0.N, t.val = 127 → (dats m 0 c).after 11 t = R) : (dats m 0 c).arrAt 11 cfg0.N = R := by
  obtain ⟨t, ht⟩ : ∃ t : Fin cfg0.N, t.val = 127 := ⟨⟨127, by rw [show cfg0.N = 128 from N_0]; decide⟩, rfl⟩
  exact (dats m 0 c).arrAt_eq_of_cover 11 R (flushed11 m c R hR) fun i => ⟨t, (flush0_11 t).mpr (by omega), covered11 t i⟩

/-- The host's transposition of the probabilities after the kernel. -/
theorem tail11 (R : Buf (Elt Ideal) ((c.tc : Thread nD τ).loc main_v38_1))
    (hR : ∀ t : Fin cfg0.N, t.val = 127 → (dats m 0 c).after 11 t = R) :
    Pipeline.afterTail₀ cfgs (dats m) 0 (V0 m) [hostOps1] c main_v40
    = transpose S128x16 [1, 0] (R : FVec Ideal S16x128 .f32) transposes_S16x128_S128x16_1_0 := by
  unfold Pipeline.afterTail₀
  have e := (Pipeline.withArrays_arr spec0 arrays_inj c (V0 m c) (fun w => (dats m 0 c).arrAt w cfg0.N) 11).trans (final11 m c R hR)
  refine Eq.trans ?_ (congrArg (fun v : FVec Ideal S16x128 .f32 => transpose S128x16 [1, 0] v transposes_S16x128_S128x16_1_0) e)
  generalize Pipeline.withArrays spec0 c (V0 m c) (fun w => (dats m 0 c).arrAt w cfg0.N) = V'
  rfl

/-- The run leaves the transposed weights and probabilities of the last point in the results. -/
theorem run_results (R10 R11 : Dev nD → FVec Ideal S16x128 .f32)
    (h10 : ∀ (c : Dev nD) (t : Fin cfg0.N), t.val = 127 → (outsAt0 m c t.val t.isLt).1 = R10 c)
    (h11 : ∀ (c : Dev nD) (t : Fin cfg0.N), t.val = 127 → (outsAt0 m c t.val t.isLt).2.1 = R11 c) :
    θ_run defs (onTc (τ := τ) (main (F := Ideal))) ⟨m, fun _ => 0, ρ⟩ (fun r => ∀ c : Dev nD,
    r.2.mem ((c.tc : Thread nD τ).loc main_v39) = transpose S128x16 [1, 0] (R10 c) transposes_S16x128_S128x16_1_0
    ∧ r.2.mem ((c.tc : Thread nD τ).loc main_v40) = transpose S128x16 [1, 0] (R11 c) transposes_S16x128_S128x16_1_0) :=
  (θ_run defs _ _).mono (fun _ h c =>
    ⟨((h c).2 main_v39 (Pipeline.mem_restRefs_of main_v39 (by decide) (by decide))).trans
      (tail10 m c (R10 c) fun t ht => (after0_10 m c t).trans (h10 c t ht)),
    ((h c).2 main_v40 (Pipeline.mem_restRefs_of main_v40 (by decide) (by decide))).trans
      (tail11 m c (R11 c) fun t ht => (after0_11 m c t).trans (h11 c t ht))⟩) (run_main m ρ)

end Cert.Proof.KFinal

end
-- ==== Proof.KRoute.lean ====
/-
  The routing of one column of logits, as the kernel computes it: the softmax over the experts, and the two largest
  logits' weights.
-/
module

public import proofs.«01_k».proof.Proof.Routing
public import proofs.«01_k».proof.Proof.KCase
public import Idealize.ShloMosaic.Lib.Pointwise

@[expose] public section

noncomputable section

open Idealize Idealize.ShloMosaic Idealize.ShloMosaic.Pointwise
open Cert.KernelIdeal Cert.KernelIdeal.Gen Cert.Proof.Routing Cert.Proof.KCase

namespace Cert.Proof.KRoute

local instance : Cert.KernelIdeal.Facts := Cert.KernelIdeal.Gen.facts

variable (g : FVec Ideal S16x12 .f32) (a : FVec Ideal S12x128 .f32) (k : IVec S16x128 32) (b : FVec Ideal S16x1 .f32)

/-- The word of minus infinity. -/
theorem word_bot : Ideal.ofBits FTy.f32 4286578688#32 = (⊥ : EReal) := by
  simp [Ideal.ofBits, Ideal.ieee]

/-- The word of one. -/
theorem word_one : Ideal.ofBits FTy.f32 1065353216#32 = (1 : EReal) := by
  simp [Ideal.ofBits, Ideal.ieee, -EReal.coe_mul]
  norm_num

/-- The masked logits, read at an expert and an image. -/
theorem logits_apply (e : Fin 16) (n : Fin 128) :
    k0_pay3 (F := Ideal) g a k b (ix2 e n)
      = if k (ix2 e n) = 0#32 then ⊥ else (∑ j : Fin 12, g (ix2 e j) * a (ix2 j n)) + b (ix2 e 0) := by
  unfold k0_pay3
  pointwise [dot_S16x12_S12x128_S16x128_1_0_0_1_n_n]
  rw [word_bot]
  exact select_cmpi_eq _ _ _ _

/-- The largest entry of a column. -/
theorem column_max (v : FVec Ideal S16x128 .f32) (n : Fin 128) :
    shapeCast S1x128 (multiReduction .maximumf [0] S128 v 0xFF800000#32 reduces_S16x128_S128 (.inl rfl) rfl) shapeCasts_S128_S1x128 (ix2 0 n)
      = Finset.univ.fold max ⊥ fun e : Fin 16 => v (ix2 e n) := by
  pointwise
  rw [word_bot]

/-- The sum of a column. -/
theorem column_sum (v : FVec Ideal S16x128 .f32) (n : Fin 128) :
    shapeCast S1x128 (multiReduction .add [0] S128 v 0x00000000#32 reduces_S16x128_S128 (.inl rfl) rfl) shapeCasts_S128_S1x128 (ix2 0 n)
      = ∑ e : Fin 16, v (ix2 e n) := by
  pointwise

/-- The smallest word of a column. -/
theorem column_min (v : IVec S16x128 32) (n : Fin 128) :
    shapeCast S1x128 (multiReductionI .minsi [0] S128 v 2147483647#32 reduces_S16x128_S128 rfl) shapeCasts_S128_S1x128 (ix2 0 n)
      = Finset.univ.fold IntOp.minsi 2147483647#32 fun e : Fin 16 => v (ix2 e n) := by
  pointwise

/-- A row repeated over the experts, read at an index. -/
theorem spread_apply {e : EltTy} (v : Vec Ideal S1x128 e) (i : Fin 16) (n : Fin 128) :
    broadcastTo S16x128 v broadcasts_S1x128_S16x128 (ix2 i n) = v (ix2 0 n) := by
  pointwise

/-- The number of an expert, read at an index. -/
theorem expert_apply (i : Fin 16) (n : Fin 128) : iota .tc S16x128 32 [0] iota_S16x128_d0_w32 (ix2 i n) = BitVec.ofNat 32 i.val := by
  pointwise

/-- The experts' numbers where two arrays agree, 99 elsewhere, read at an index. -/
theorem agree_apply (u : FVec Ideal S16x128 .f32) (v : FVec Ideal S1x128 .f32) (i : Fin 16) (n : Fin 128) :
    select (cmpf .oeq u (broadcastTo S16x128 v broadcasts_S1x128_S16x128)) (iota .tc S16x128 32 [0] iota_S16x128_d0_w32)
      (broadcast S16x128 99#32) (ix2 i n) = if u (ix2 i n) = v (ix2 0 n) then BitVec.ofNat 32 i.val else 99#32 := by
  rw [← expert_apply i n, ← spread_apply (e := .f32) v i n]
  exact select_cmpf_oeq _ _ _ _

/-- Where an expert's number is the word of its column, read at an index. -/
theorem place_apply (v : IVec S1x128 32) (i : Fin 16) (n : Fin 128) :
    cmpi .eq (iota .tc S16x128 32 [0] iota_S16x128_d0_w32) (broadcastTo S16x128 v broadcasts_S1x128_S16x128) (ix2 i n)
      = IntOp.cmpi .eq (BitVec.ofNat 32 i.val) (v (ix2 0 n)) := by
  rw [← expert_apply i n, ← spread_apply (e := .i32) v i n]
  rfl

/-- A value of the column kept where the flag is set, read at an index. -/
theorem keep_apply (f : IVec S16x128 1) (v : FVec Ideal S1x128 .f32) (i : Fin 16) (n : Fin 128) (p : Prop) [Decidable p]
    (hf : f (ix2 i n) = if p then 1#1 else 0#1) :
    select f (broadcastTo S16x128 (shapeCast S1x128 v shapeCasts_S1x128_S1x128) broadcasts_S1x128_S16x128)
      (broadcast S16x128 (Scalar.ofBits .f32 0x00000000#32)) (ix2 i n) = if p then v (ix2 0 n) else (0 : EReal) := by
  rw [shapeCast_self, ← spread_apply (e := .f32) v i n]
  have h0 : Ideal.ofBits FTy.f32 0#32 = (0 : EReal) := by simp [Ideal.ofBits, Ideal.ieee]
  show Scalar.select (f (ix2 i n)) _ (Ideal.ofBits FTy.f32 0#32) = _
  rw [hf, h0]
  by_cases hp : p
  · rw [if_pos hp, if_pos hp]; rfl
  · rw [if_neg hp, if_neg hp]; rfl

/-- The column maximum the kernel computes is the logit of the first place. -/
theorem max_apply {L : Fin 16 → EReal} {e1 e2 : Fin 16} (h : Top L e1 e2) (n : Fin 128) (hL : ∀ e, k0_pay3 (F := Ideal) g a k b (ix2 e n) = L e) :
    k0_pay4 (F := Ideal) g a k b (ix2 0 n) = L e1 := by
  unfold k0_pay4
  rw [column_max, funext hL, fold_max_eq L e1 h.max1]

/-- The probabilities the kernel computes. -/
theorem probs_apply {L : Fin 16 → EReal} {e1 e2 : Fin 16} (h : Top L e1 e2) (n : Fin 128) (hL : ∀ e, k0_pay3 (F := Ideal) g a k b (ix2 e n) = L e)
    (e : Fin 16) : k0_pay5 (F := Ideal) g a k b (ix2 e n) = share L e1 e := by
  have hE : ∀ i : Fin 16, exp (subf (k0_pay3 (F := Ideal) g a k b) (broadcastTo S16x128 (k0_pay4 (F := Ideal) g a k b) broadcasts_S1x128_S16x128)) (ix2 i n)
      = Ideal.exp (L i - L e1) := fun i => by
    show Ideal.exp (k0_pay3 (F := Ideal) g a k b (ix2 i n) - broadcastTo S16x128 (k0_pay4 (F := Ideal) g a k b) broadcasts_S1x128_S16x128 (ix2 i n)) = _
    rw [spread_apply (e := .f32), max_apply g a k b h n hL, hL]
  unfold k0_pay5 share
  rw [divf_apply, hE, spread_apply (e := .f32), column_sum]
  exact congrArg (Ideal.div _) (Finset.sum_congr rfl fun i _ => hE i)

/-- The kernel's place of the largest logit. -/
theorem first_apply {L : Fin 16 → EReal} {e1 e2 : Fin 16} (h : Top L e1 e2) (n : Fin 128) (hL : ∀ e, k0_pay3 (F := Ideal) g a k b (ix2 e n) = L e)
    (e : Fin 16) : k0_pay6 (F := Ideal) g a k b (ix2 e n) = if e = e1 then 1#1 else 0#1 := by
  unfold k0_pay6
  rw [← cmpi_place, place_apply, column_min]
  refine congrArg _ ((Finset.fold_congr fun i _ => ?_).trans (fold_minsi (fun i => L i = L e1) e1 rfl fun i hi => (h.first1 i hi).ne))
  rw [agree_apply, hL, max_apply g a k b h n hL]

/-- The logits without the first place. -/
theorem rest_apply {L : Fin 16 → EReal} {e1 e2 : Fin 16} (h : Top L e1 e2) (n : Fin 128) (hL : ∀ e, k0_pay3 (F := Ideal) g a k b (ix2 e n) = L e)
    (e : Fin 16) : k0_pay7 (F := Ideal) g a k b (ix2 e n) = rest L e1 e := by
  unfold k0_pay7
  show Scalar.select (k0_pay6 (F := Ideal) g a k b (ix2 e n)) (Ideal.ofBits FTy.f32 4286578688#32) (k0_pay3 (F := Ideal) g a k b (ix2 e n)) = _
  rw [word_bot, first_apply g a k b h n hL, hL]
  unfold rest
  by_cases he : e = e1
  · rw [if_pos he, if_pos he]; rfl
  · rw [if_neg he, if_neg he]; rfl

/-- The largest of the rest is the logit of the second place. -/
theorem second_apply {L : Fin 16 → EReal} {e1 e2 : Fin 16} (h : Top L e1 e2) (n : Fin 128) (hL : ∀ e, k0_pay3 (F := Ideal) g a k b (ix2 e n) = L e) :
    k0_pay8 (F := Ideal) g a k b (ix2 0 n) = L e2 := by
  unfold k0_pay8
  rw [column_max, funext (rest_apply g a k b h n hL), fold_max_rest h]

/-- The routing weights the kernel computes. -/
theorem weights_apply {L : Fin 16 → EReal} {e1 e2 : Fin 16} (h : Top L e1 e2) (n : Fin 128) (hL : ∀ e, k0_pay3 (F := Ideal) g a k b (ix2 e n) = L e)
    (e : Fin 16) : weights (F := Ideal) g a k b (ix2 e n) = routed L e1 e2 e := by
  obtain ⟨c2, hc, hf⟩ := exists_second h
  have hP : cmpi .eq (iota .tc S16x128 32 [0] iota_S16x128_d0_w32) (broadcastTo S16x128 (shapeCast S1x128 (multiReductionI .minsi [0] S128
      (select (k0_pay9 (F := Ideal) g a k b) (iota .tc S16x128 32 [0] iota_S16x128_d0_w32) k0_pay10) 2147483647#32 reduces_S16x128_S128 rfl)
      shapeCasts_S128_S1x128) broadcasts_S1x128_S16x128) (ix2 e n) = if e = c2 then 1#1 else 0#1 := by
    rw [← cmpi_place, place_apply, column_min]
    refine congrArg _ ((Finset.fold_congr fun i _ => ?_).trans (fold_minsi (fun i => rest L e1 i = L e2) c2 hc hf))
    unfold k0_pay9 k0_pay10
    rw [agree_apply, rest_apply g a k b h n hL, second_apply g a k b h n hL]
  have hG : exp (subf (k0_pay8 (F := Ideal) g a k b) (k0_pay4 (F := Ideal) g a k b)) (ix2 0 n) = gap L e1 e2 := by
    show Ideal.exp (k0_pay8 (F := Ideal) g a k b (ix2 0 n) - k0_pay4 (F := Ideal) g a k b (ix2 0 n)) = _
    rw [second_apply g a k b h n hL, max_apply g a k b h n hL]
    rfl
  rw [← kernel_pick h c2 hc hf e]
  unfold weights k0_pay2
  rw [addf_apply, keep_apply _ _ e n (e = e1) (first_apply g a k b h n hL e), keep_apply _ _ e n (e = c2) hP, divf_apply, divf_apply, addf_apply, hG]
  show (if e = e1 then Ideal.div (Ideal.ofBits FTy.f32 1065353216#32) (Ideal.ofBits FTy.f32 1065353216#32 + gap L e1 e2) else 0)
    + (if e = c2 then Ideal.div (gap L e1 e2) (Ideal.ofBits FTy.f32 1065353216#32 + gap L e1 e2) else 0) = _
  rw [word_one]

end Cert.Proof.KRoute

end
-- ==== Proof.KResults.lean ====
/- The kernel's results, read at an index. -/
module

public import proofs.«01_k».proof.Proof.KFinal
public import proofs.«01_k».proof.Proof.KArray
public import proofs.«01_k».proof.Proof.KRoute
public import proofs.«01_k».proof.Proof.Params

@[expose] public section

noncomputable section

namespace Cert.Proof.KResults

open Idealize Idealize.ShloMosaic Idealize.ShloMosaic.Pointwise Idealize.SL
open Cert.KernelIdeal Cert.KernelIdeal.Gen
open Cert.Proof.Spec Cert.Proof.Params Cert.Proof.Routing Cert.Proof.KCase Cert.Proof.KStep Cert.Proof.KHost Cert.Proof.KArray Cert.Proof.KRoute

local instance : Cert.KernelIdeal.Facts := Cert.KernelIdeal.Gen.facts

variable (m : (ℓ : Loc nD τ sig) → Buf (Elt Ideal) ℓ) (c : Dev nD) (N : Net)

/-- The arguments of the kernel hold these images and parameters. -/
structure Holds : Prop where
  x : ∀ n ch h w, (m ((c.tc : Thread nD τ).loc main_arg0) : FVec Ideal S128x3x224x224 .f32) (ix4 n ch h w) = (N.x n ch h w : EReal)
  w1 : Weights N.p1 (m ((c.tc : Thread nD τ).loc main_arg2)) (m ((c.tc : Thread nD τ).loc main_arg3)) (m ((c.tc : Thread nD τ).loc main_arg4)) (m ((c.tc : Thread nD τ).loc main_arg5))
  w2 : Weights N.p2 (m ((c.tc : Thread nD τ).loc main_arg6)) (m ((c.tc : Thread nD τ).loc main_arg7)) (m ((c.tc : Thread nD τ).loc main_arg8)) (m ((c.tc : Thread nD τ).loc main_arg9))
  w3 : Weights N.p3 (m ((c.tc : Thread nD τ).loc main_arg10)) (m ((c.tc : Thread nD τ).loc main_arg11)) (m ((c.tc : Thread nD τ).loc main_arg12)) (m ((c.tc : Thread nD τ).loc main_arg13))

/-- The arrays the host prepares hold the folded parameters. -/
theorem given (h : Holds m c N) : Given m c N where
  x n ch hh w := by rw [V_main_arg0]; exact h.x n ch hh w
  f1 o j i := by rw [V_filters1, filters1_apply, h.w1.W, h.w1.s, EReal.coe_mul]
  b1 o := by rw [V_bias1, bias1_apply, h.w1.b, h.w1.s, h.w1.t, EReal.coe_add, EReal.coe_mul]
  f2 o j i := by rw [V_filters2, filters2_apply, h.w2.W, h.w2.s, EReal.coe_mul]
  b2 o := by rw [V_bias2, bias2_apply, h.w2.b, h.w2.s, h.w2.t, EReal.coe_add, EReal.coe_mul]
  f3 o j i := by rw [V_filters3, filters3_apply, h.w3.W, h.w3.s, EReal.coe_mul]
  b3 o := by rw [V_bias3, bias3_apply, h.w3.b, h.w3.s, h.w3.t, EReal.coe_add, EReal.coe_mul]

/-- The rows of logits the two results are made of. -/
def rows (n : Fin 128) : Fin 16 → EReal := row N (m ((c.tc : Thread nD τ).loc main_arg1)) (m ((c.tc : Thread nD τ).loc main_arg14)) (m ((c.tc : Thread nD τ).loc main_arg15)) n

/-- The kernel's logits, read at an expert and an image. -/
theorem table_apply (pool : FVec Ideal S12x128 .f32) (hp : ∀ o l, pool (ix2 o l) = (N.mean l o : EReal)) (n : Fin 128) (e : Fin 16) :
    k0_pay3 (F := Ideal) (V m c main_arg14) pool (V m c main_v37) (V m c main_v36) (ix2 e n) = rows m c N n e := by
  rw [logits_apply, V_mask, V_gate, V_main_arg14]
  unfold rows row
  simp only [hp]
  pointwise

/-- What the kernel leaves in its two output blocks at the last point. -/
theorem blocks (h : Holds m c N) (e1 e2 : Fin 128 → Fin 16) (ht : ∀ n, Top (rows m c N n) (e1 n) (e2 n))
    (t : Fin cfg0.N) (h127 : t.val = 127) :
    (outsAt0 m c t.val t.isLt).1 = (fun i => routed (rows m c N (i 1)) (e1 (i 1)) (e2 (i 1)) (i 0) : FVec Ideal S16x128 .f32)
    ∧ (outsAt0 m c t.val t.isLt).2.1 = (fun i => share (rows m c N (i 1)) (e1 (i 1)) (i 0) : FVec Ideal S16x128 .f32) := by
  obtain ⟨pool, hp, h1, h2⟩ := last_out m c N (given m c N h) t h127
  refine ⟨h1.trans (funext fun i => ?_), h2.trans (funext fun i => ?_)⟩
  · obtain ⟨e, n, rfl⟩ : ∃ e n, i = ix2 e n := ⟨i 0, i 1, eq_ix2 i⟩
    exact weights_apply _ _ _ _ (ht n) n (fun e => table_apply m c N pool hp n e) e
  · obtain ⟨e, n, rfl⟩ : ∃ e n, i = ix2 e n := ⟨i 0, i 1, eq_ix2 i⟩
    exact probs_apply _ _ _ _ (ht n) n (fun e => table_apply m c N pool hp n e) e

end Cert.Proof.KResults

end

end
-- ==== Proof.RefConv.lean ====
/- The reference's layers, read at an index. -/
module

public import proofs.«01_k».proof.Proof.Params
public import proofs.«01_k».proof.Proof.Gen.ReferenceIdeal.Read
public import Idealize.ShloMosaic.Lib.KernelVsHost
public import Idealize.ShloMosaic.Lib.Pointwise

@[expose] public section

noncomputable section

namespace Cert.Proof.RefConv

open Idealize Idealize.ShloMosaic Idealize.ShloMosaic.Pointwise
open Cert.ReferenceIdeal Cert.ReferenceIdeal.Gen Cert.ReferenceIdeal.Read
open Cert.Proof.Spec Cert.Proof.Params

local instance : Cert.ReferenceIdeal.Facts := Cert.ReferenceIdeal.Gen.facts

/-- The literal zero. -/
theorem zero_literal : Ideal.ofBits .f32 0x00000000#32 = 0 := by
  simp [Ideal.ofBits, Ideal.ieee]

/-- The integer zero, made a number. -/
theorem zero_converted (i : S_.Idx) : val_main_call0_v0 (F := Ideal) i = 0 := by
  show (((0#32 : BitVec 32).toInt : ℝ) : EReal) = 0
  simp

/-- An array of 3 channels padded with zeros, read at the padded coordinates. -/
theorem pad3_apply (x : FVec Ideal S128x3x224x224 .f32) (f : Fin 128 → Fin 3 → Fin 224 → Fin 224 → ℝ)
    (hx : ∀ n c h w, x (ix4 n c h w) = (f n c h w : EReal)) (v : FVec Ideal S_ .f32) (hv : ∀ i, v i = 0)
    (hp : S128x3x224x224.Pads ![0, 0, 1, 1] ![0, 0, 1, 1] ![0, 0, 0, 0] S128x3x226x226) (hu : 0 < S_.numel)
    (n : Fin 128) (c : Fin 3) (y z : Fin 226) :
    pad S128x3x226x226 ![0, 0, 1, 1] ![0, 0, 1, 1] ![0, 0, 0, 0] x v hp hu (ix4 n c y z) = (border (f n) c y.val z.val : EReal) := by
  by_cases hh : (1 ≤ y.val ∧ y.val ≤ 224) ∧ (1 ≤ z.val ∧ z.val ≤ 224)
  · rw [pad_apply_of_inside _ _ _ x v hp hu _ (ix4 n c (⟨y.val - 1, by omega⟩ : Fin 224) (⟨z.val - 1, by omega⟩ : Fin 224))
      (Fin.forall_fin_succ.2 ⟨by show n.val = 0 + n.val * 1; omega, Fin.forall_fin_succ.2 ⟨by show c.val = 0 + c.val * 1; omega,
        Fin.forall_fin_succ.2 ⟨by show y.val = 1 + (y.val - 1) * 1; omega, Fin.forall_fin_succ.2
          ⟨by show z.val = 1 + (z.val - 1) * 1; omega, fun a => a.elim0⟩⟩⟩⟩), hx]
    unfold border
    rw [dif_pos hh]
  · rw [border_outside _ _ _ _ hh]
    by_cases hy : 1 ≤ y.val ∧ y.val ≤ 224
    · rw [pad_apply_of_not_inside _ _ _ x v hp hu _ (3 : Fin 4) (by
        show ¬(1 ≤ z.val ∧ (z.val - 1) % 1 = 0 ∧ (z.val - 1) / 1 < 224)
        omega), hv, EReal.coe_zero]
    · rw [pad_apply_of_not_inside _ _ _ x v hp hu _ (2 : Fin 4) (by
        show ¬(1 ≤ y.val ∧ (y.val - 1) % 1 = 0 ∧ (y.val - 1) / 1 < 224)
        omega), hv, EReal.coe_zero]

/-- An array of 6 channels padded with zeros, read at the padded coordinates. -/
theorem pad6_apply (x : FVec Ideal S128x6x224x224 .f32) (f : Fin 128 → Fin 6 → Fin 224 → Fin 224 → ℝ)
    (hx : ∀ n c h w, x (ix4 n c h w) = (f n c h w : EReal)) (v : FVec Ideal S_ .f32) (hv : ∀ i, v i = 0)
    (hp : S128x6x224x224.Pads ![0, 0, 1, 1] ![0, 0, 1, 1] ![0, 0, 0, 0] S128x6x226x226) (hu : 0 < S_.numel)
    (n : Fin 128) (c : Fin 6) (y z : Fin 226) :
    pad S128x6x226x226 ![0, 0, 1, 1] ![0, 0, 1, 1] ![0, 0, 0, 0] x v hp hu (ix4 n c y z) = (border (f n) c y.val z.val : EReal) := by
  by_cases hh : (1 ≤ y.val ∧ y.val ≤ 224) ∧ (1 ≤ z.val ∧ z.val ≤ 224)
  · rw [pad_apply_of_inside _ _ _ x v hp hu _ (ix4 n c (⟨y.val - 1, by omega⟩ : Fin 224) (⟨z.val - 1, by omega⟩ : Fin 224))
      (Fin.forall_fin_succ.2 ⟨by show n.val = 0 + n.val * 1; omega, Fin.forall_fin_succ.2 ⟨by show c.val = 0 + c.val * 1; omega,
        Fin.forall_fin_succ.2 ⟨by show y.val = 1 + (y.val - 1) * 1; omega, Fin.forall_fin_succ.2
          ⟨by show z.val = 1 + (z.val - 1) * 1; omega, fun a => a.elim0⟩⟩⟩⟩), hx]
    unfold border
    rw [dif_pos hh]
  · rw [border_outside _ _ _ _ hh]
    by_cases hy : 1 ≤ y.val ∧ y.val ≤ 224
    · rw [pad_apply_of_not_inside _ _ _ x v hp hu _ (3 : Fin 4) (by
        show ¬(1 ≤ z.val ∧ (z.val - 1) % 1 = 0 ∧ (z.val - 1) / 1 < 224)
        omega), hv, EReal.coe_zero]
    · rw [pad_apply_of_not_inside _ _ _ x v hp hu _ (2 : Fin 4) (by
        show ¬(1 ≤ y.val ∧ (y.val - 1) % 1 = 0 ∧ (y.val - 1) / 1 < 224)
        omega), hv, EReal.coe_zero]

/-- An array of 12 channels padded with zeros, read at the padded coordinates. -/
theorem pad12_apply (x : FVec Ideal S128x12x224x224 .f32) (f : Fin 128 → Fin 12 → Fin 224 → Fin 224 → ℝ)
    (hx : ∀ n c h w, x (ix4 n c h w) = (f n c h w : EReal)) (v : FVec Ideal S_ .f32) (hv : ∀ i, v i = 0)
    (hp : S128x12x224x224.Pads ![0, 0, 1, 1] ![0, 0, 1, 1] ![0, 0, 0, 0] S128x12x226x226) (hu : 0 < S_.numel)
    (n : Fin 128) (c : Fin 12) (y z : Fin 226) :
    pad S128x12x226x226 ![0, 0, 1, 1] ![0, 0, 1, 1] ![0, 0, 0, 0] x v hp hu (ix4 n c y z) = (border (f n) c y.val z.val : EReal) := by
  by_cases hh : (1 ≤ y.val ∧ y.val ≤ 224) ∧ (1 ≤ z.val ∧ z.val ≤ 224)
  · rw [pad_apply_of_inside _ _ _ x v hp hu _ (ix4 n c (⟨y.val - 1, by omega⟩ : Fin 224) (⟨z.val - 1, by omega⟩ : Fin 224))
      (Fin.forall_fin_succ.2 ⟨by show n.val = 0 + n.val * 1; omega, Fin.forall_fin_succ.2 ⟨by show c.val = 0 + c.val * 1; omega,
        Fin.forall_fin_succ.2 ⟨by show y.val = 1 + (y.val - 1) * 1; omega, Fin.forall_fin_succ.2
          ⟨by show z.val = 1 + (z.val - 1) * 1; omega, fun a => a.elim0⟩⟩⟩⟩), hx]
    unfold border
    rw [dif_pos hh]
  · rw [border_outside _ _ _ _ hh]
    by_cases hy : 1 ≤ y.val ∧ y.val ≤ 224
    · rw [pad_apply_of_not_inside _ _ _ x v hp hu _ (3 : Fin 4) (by
        show ¬(1 ≤ z.val ∧ (z.val - 1) % 1 = 0 ∧ (z.val - 1) / 1 < 224)
        omega), hv, EReal.coe_zero]
    · rw [pad_apply_of_not_inside _ _ _ x v hp hu _ (2 : Fin 4) (by
        show ¬(1 ≤ y.val ∧ (y.val - 1) % 1 = 0 ∧ (y.val - 1) / 1 < 224)
        omega), hv, EReal.coe_zero]

/-- One tap of layer 1, read at a pixel. -/
theorem tap1_apply (P : FVec Ideal S128x3x226x226 .f32) (W : FVec Ideal S6x3x3x3 .f32)
    (p : Params 3 6) (f : Fin 128 → Fin 3 → Fin 224 → Fin 224 → ℝ)
    (hP : ∀ n c (y z : Fin 226), P (ix4 n c y z) = (border (f n) c y.val z.val : EReal))
    (hW : ∀ o c dy dx, W (ix4 o c dy dx) = (p.W o c dy dx : EReal)) (dy dx : Fin 3)
    (hs : S128x3x226x226.Slices ![0, 0, dy.val, dx.val] S128x3x224x224)
    (hw : S6x3x3x3.Slices ![0, 0, dy.val, dx.val] S6x3x1x1)
    (n : Fin 128) (o : Fin 6) (h w : Fin 224) :
    transpose S128x6x224x224 [0, 3, 1, 2] (Host.dotGeneral dot_S128x3x224x224_S6x3_S128x224x224x6_1_1_023_0_n_n none
      (extractStridedSlice S128x3x224x224 ![0, 0, dy.val, dx.val] P hs)
      (shapeCast S6x3 (extractStridedSlice S6x3x1x1 ![0, 0, dy.val, dx.val] W hw) shapeCasts_S6x3x1x1_S6x3))
      transposes_S128x224x224x6_S128x6x224x224_0_3_1_2 (ix4 n o h w) = (tap p.W (f n) o h w dy dx : EReal) := by
  unfold tap
  rw [coe_sum]
  pointwise [dot_S128x3x224x224_S6x3_S128x224x224x6_1_1_023_0_n_n]
  refine Finset.sum_congr rfl fun c _ => ?_
  rw [EReal.coe_mul, mul_comm]
  rw [hW, hP]
  show _ * ((border (f n) c (dy.val + h.val) (dx.val + w.val) : ℝ) : EReal) = _
  rw [Nat.add_comm dy.val, Nat.add_comm dx.val]

/-- One tap of layer 2, read at a pixel. -/
theorem tap2_apply (P : FVec Ideal S128x6x226x226 .f32) (W : FVec Ideal S12x6x3x3 .f32)
    (p : Params 6 12) (f : Fin 128 → Fin 6 → Fin 224 → Fin 224 → ℝ)
    (hP : ∀ n c (y z : Fin 226), P (ix4 n c y z) = (border (f n) c y.val z.val : EReal))
    (hW : ∀ o c dy dx, W (ix4 o c dy dx) = (p.W o c dy dx : EReal)) (dy dx : Fin 3)
    (hs : S128x6x226x226.Slices ![0, 0, dy.val, dx.val] S128x6x224x224)
    (hw : S12x6x3x3.Slices ![0, 0, dy.val, dx.val] S12x6x1x1)
    (n : Fin 128) (o : Fin 12) (h w : Fin 224) :
    transpose S128x12x224x224 [0, 3, 1, 2] (Host.dotGeneral dot_S128x6x224x224_S12x6_S128x224x224x12_1_1_023_0_n_n none
      (extractStridedSlice S128x6x224x224 ![0, 0, dy.val, dx.val] P hs)
      (shapeCast S12x6 (extractStridedSlice S12x6x1x1 ![0, 0, dy.val, dx.val] W hw) shapeCasts_S12x6x1x1_S12x6))
      transposes_S128x224x224x12_S128x12x224x224_0_3_1_2 (ix4 n o h w) = (tap p.W (f n) o h w dy dx : EReal) := by
  unfold tap
  rw [coe_sum]
  pointwise [dot_S128x6x224x224_S12x6_S128x224x224x12_1_1_023_0_n_n]
  refine Finset.sum_congr rfl fun c _ => ?_
  rw [EReal.coe_mul, mul_comm]
  rw [hW, hP]
  show _ * ((border (f n) c (dy.val + h.val) (dx.val + w.val) : ℝ) : EReal) = _
  rw [Nat.add_comm dy.val, Nat.add_comm dx.val]

/-- One tap of layer 3, read at a pixel. -/
theorem tap3_apply (P : FVec Ideal S128x12x226x226 .f32) (W : FVec Ideal S12x12x3x3 .f32)
    (p : Params 12 12) (f : Fin 128 → Fin 12 → Fin 224 → Fin 224 → ℝ)
    (hP : ∀ n c (y z : Fin 226), P (ix4 n c y z) = (border (f n) c y.val z.val : EReal))
    (hW : ∀ o c dy dx, W (ix4 o c dy dx) = (p.W o c dy dx : EReal)) (dy dx : Fin 3)
    (hs : S128x12x226x226.Slices ![0, 0, dy.val, dx.val] S128x12x224x224)
    (hw : S12x12x3x3.Slices ![0, 0, dy.val, dx.val] S12x12x1x1)
    (n : Fin 128) (o : Fin 12) (h w : Fin 224) :
    transpose S128x12x224x224 [0, 3, 1, 2] (Host.dotGeneral dot_S128x12x224x224_S12x12_S128x224x224x12_1_1_023_0_n_n none
      (extractStridedSlice S128x12x224x224 ![0, 0, dy.val, dx.val] P hs)
      (shapeCast S12x12 (extractStridedSlice S12x12x1x1 ![0, 0, dy.val, dx.val] W hw) shapeCasts_S12x12x1x1_S12x12))
      transposes_S128x224x224x12_S128x12x224x224_0_3_1_2 (ix4 n o h w) = (tap p.W (f n) o h w dy dx : EReal) := by
  unfold tap
  rw [coe_sum]
  pointwise [dot_S128x12x224x224_S12x12_S128x224x224x12_1_1_023_0_n_n]
  refine Finset.sum_congr rfl fun c _ => ?_
  rw [EReal.coe_mul, mul_comm]
  rw [hW, hP]
  show _ * ((border (f n) c (dy.val + h.val) (dx.val + w.val) : ℝ) : EReal) = _
  rw [Nat.add_comm dy.val, Nat.add_comm dx.val]

/-- Layer 1 of the reference, read at a pixel. -/
theorem layer1_apply (x0 : FVec Ideal S128x3x224x224 .f32) (x2 : FVec Ideal S6x3x3x3 .f32) (x3 x4 x5 : FVec Ideal S6 .f32)
    (f : Fin 128 → Fin 3 → Fin 224 → Fin 224 → ℝ)
    (hx : ∀ n c h w, x0 (ix4 n c h w) = (f n c h w : EReal)) (p : Params 3 6) (hp : Weights p x2 x3 x4 x5)
    (n : Fin 128) (o : Fin 6) (h w : Fin 224) :
    val_main_v69 (F := Ideal) x0 x2 x3 x4 x5 (ix4 n o h w) = (layer p (f n) o h w : EReal) := by
  have hP : ∀ n c (y z : Fin 226), val_main_v0 (F := Ideal) x0 (ix4 n c y z) = (border (f n) c y.val z.val : EReal) := fun n c y z =>
    pad3_apply _ f hx _ zero_converted _ _ n c y z
  have z : val_main_v1 (F := Ideal) (ix4 n o h w) = 0 := (val_main_v1_apply _).trans zero_literal
  have z' : val_main_call1_v0 (F := Ideal) (ix4 n o h w) = 0 := (val_main_call1_v0_apply _).trans zero_literal
  have eb : val_main_v57 (F := Ideal) x3 (ix4 n o h w) = x3 (ix1 o) := by
    unfold val_main_v57 val_main_v56
    pointwise
  have et : val_main_v67 (F := Ideal) x5 (ix4 n o h w) = x5 (ix1 o) := by
    unfold val_main_v67 val_main_v66
    pointwise
  have es : val_main_v64 (F := Ideal) x4 (ix4 n o h w) = Ideal.div (x4 (ix1 o)) root := by
    unfold val_main_v64 val_main_v63 val_main_v62 val_main_v61
    pointwise
    rfl
  have t0 : val_main_v6 (F := Ideal) x0 x2 (ix4 n o h w) = (tap p.W (f n) o h w 0 0 : EReal) :=
    tap1_apply _ _ p f hP hp.W 0 0 _ _ n o h w
  have t1 : val_main_v12 (F := Ideal) x0 x2 (ix4 n o h w) = (tap p.W (f n) o h w 0 1 : EReal) :=
    tap1_apply _ _ p f hP hp.W 0 1 _ _ n o h w
  have t2 : val_main_v18 (F := Ideal) x0 x2 (ix4 n o h w) = (tap p.W (f n) o h w 0 2 : EReal) :=
    tap1_apply _ _ p f hP hp.W 0 2 _ _ n o h w
  have t3 : val_main_v24 (F := Ideal) x0 x2 (ix4 n o h w) = (tap p.W (f n) o h w 1 0 : EReal) :=
    tap1_apply _ _ p f hP hp.W 1 0 _ _ n o h w
  have t4 : val_main_v30 (F := Ideal) x0 x2 (ix4 n o h w) = (tap p.W (f n) o h w 1 1 : EReal) :=
    tap1_apply _ _ p f hP hp.W 1 1 _ _ n o h w
  have t5 : val_main_v36 (F := Ideal) x0 x2 (ix4 n o h w) = (tap p.W (f n) o h w 1 2 : EReal) :=
    tap1_apply _ _ p f hP hp.W 1 2 _ _ n o h w
  have t6 : val_main_v42 (F := Ideal) x0 x2 (ix4 n o h w) = (tap p.W (f n) o h w 2 0 : EReal) :=
    tap1_apply _ _ p f hP hp.W 2 0 _ _ n o h w
  have t7 : val_main_v48 (F := Ideal) x0 x2 (ix4 n o h w) = (tap p.W (f n) o h w 2 1 : EReal) :=
    tap1_apply _ _ p f hP hp.W 2 1 _ _ n o h w
  have t8 : val_main_v54 (F := Ideal) x0 x2 (ix4 n o h w) = (tap p.W (f n) o h w 2 2 : EReal) :=
    tap1_apply _ _ p f hP hp.W 2 2 _ _ n o h w
  rw [val_main_v69_apply, val_main_v68_apply, val_main_v65_apply, val_main_v58_apply, eb, et, es, z',
    val_main_v55_apply, val_main_v49_apply, val_main_v43_apply, val_main_v37_apply, val_main_v31_apply, val_main_v25_apply, val_main_v19_apply, val_main_v13_apply, val_main_v7_apply, z,
    t0, t1, t2, t3, t4, t5, t6, t7, t8]
  exact layer_chain p (f n) o h w (fun dy dx => (tap p.W (f n) o h w dy dx : EReal)) (fun _ _ => rfl) _ _ _ (hp.b o) (hp.s o) (hp.t o)

/-- Layer 2 of the reference, read at a pixel. -/
theorem layer2_apply (x0 : FVec Ideal S128x3x224x224 .f32) (x2 : FVec Ideal S6x3x3x3 .f32) (x3 x4 x5 : FVec Ideal S6 .f32) (x6 : FVec Ideal S12x6x3x3 .f32) (x7 x8 x9 : FVec Ideal S12 .f32)
    (f : Fin 128 → Fin 6 → Fin 224 → Fin 224 → ℝ)
    (hx : ∀ n c h w, val_main_v69 (F := Ideal) x0 x2 x3 x4 x5 (ix4 n c h w) = (f n c h w : EReal)) (p : Params 6 12) (hp : Weights p x6 x7 x8 x9)
    (n : Fin 128) (o : Fin 12) (h w : Fin 224) :
    val_main_v139 (F := Ideal) x0 x2 x3 x4 x5 x6 x7 x8 x9 (ix4 n o h w) = (layer p (f n) o h w : EReal) := by
  have hP : ∀ n c (y z : Fin 226), val_main_v70 (F := Ideal) x0 x2 x3 x4 x5 (ix4 n c y z) = (border (f n) c y.val z.val : EReal) := fun n c y z =>
    pad6_apply _ f hx _ zero_converted _ _ n c y z
  have z : val_main_v71 (F := Ideal) (ix4 n o h w) = 0 := (val_main_v71_apply _).trans zero_literal
  have z' : val_main_call3_v0 (F := Ideal) (ix4 n o h w) = 0 := (val_main_call3_v0_apply _).trans zero_literal
  have eb : val_main_v127 (F := Ideal) x7 (ix4 n o h w) = x7 (ix1 o) := by
    unfold val_main_v127 val_main_v126
    pointwise
  have et : val_main_v137 (F := Ideal) x9 (ix4 n o h w) = x9 (ix1 o) := by
    unfold val_main_v137 val_main_v136
    pointwise
  have es : val_main_v134 (F := Ideal) x8 (ix4 n o h w) = Ideal.div (x8 (ix1 o)) root := by
    unfold val_main_v134 val_main_v133 val_main_v132 val_main_v131
    pointwise
    rfl
  have t0 : val_main_v76 (F := Ideal) x0 x2 x3 x4 x5 x6 (ix4 n o h w) = (tap p.W (f n) o h w 0 0 : EReal) :=
    tap2_apply _ _ p f hP hp.W 0 0 _ _ n o h w
  have t1 : val_main_v82 (F := Ideal) x0 x2 x3 x4 x5 x6 (ix4 n o h w) = (tap p.W (f n) o h w 0 1 : EReal) :=
    tap2_apply _ _ p f hP hp.W 0 1 _ _ n o h w
  have t2 : val_main_v88 (F := Ideal) x0 x2 x3 x4 x5 x6 (ix4 n o h w) = (tap p.W (f n) o h w 0 2 : EReal) :=
    tap2_apply _ _ p f hP hp.W 0 2 _ _ n o h w
  have t3 : val_main_v94 (F := Ideal) x0 x2 x3 x4 x5 x6 (ix4 n o h w) = (tap p.W (f n) o h w 1 0 : EReal) :=
    tap2_apply _ _ p f hP hp.W 1 0 _ _ n o h w
  have t4 : val_main_v100 (F := Ideal) x0 x2 x3 x4 x5 x6 (ix4 n o h w) = (tap p.W (f n) o h w 1 1 : EReal) :=
    tap2_apply _ _ p f hP hp.W 1 1 _ _ n o h w
  have t5 : val_main_v106 (F := Ideal) x0 x2 x3 x4 x5 x6 (ix4 n o h w) = (tap p.W (f n) o h w 1 2 : EReal) :=
    tap2_apply _ _ p f hP hp.W 1 2 _ _ n o h w
  have t6 : val_main_v112 (F := Ideal) x0 x2 x3 x4 x5 x6 (ix4 n o h w) = (tap p.W (f n) o h w 2 0 : EReal) :=
    tap2_apply _ _ p f hP hp.W 2 0 _ _ n o h w
  have t7 : val_main_v118 (F := Ideal) x0 x2 x3 x4 x5 x6 (ix4 n o h w) = (tap p.W (f n) o h w 2 1 : EReal) :=
    tap2_apply _ _ p f hP hp.W 2 1 _ _ n o h w
  have t8 : val_main_v124 (F := Ideal) x0 x2 x3 x4 x5 x6 (ix4 n o h w) = (tap p.W (f n) o h w 2 2 : EReal) :=
    tap2_apply _ _ p f hP hp.W 2 2 _ _ n o h w
  rw [val_main_v139_apply, val_main_v138_apply, val_main_v135_apply, val_main_v128_apply, eb, et, es, z',
    val_main_v125_apply, val_main_v119_apply, val_main_v113_apply, val_main_v107_apply, val_main_v101_apply, val_main_v95_apply, val_main_v89_apply, val_main_v83_apply, val_main_v77_apply, z,
    t0, t1, t2, t3, t4, t5, t6, t7, t8]
  exact layer_chain p (f n) o h w (fun dy dx => (tap p.W (f n) o h w dy dx : EReal)) (fun _ _ => rfl) _ _ _ (hp.b o) (hp.s o) (hp.t o)

/-- Layer 3 of the reference, read at a pixel. -/
theorem layer3_apply (x0 : FVec Ideal S128x3x224x224 .f32) (x2 : FVec Ideal S6x3x3x3 .f32) (x3 x4 x5 : FVec Ideal S6 .f32) (x6 : FVec Ideal S12x6x3x3 .f32) (x7 x8 x9 : FVec Ideal S12 .f32) (x10 : FVec Ideal S12x12x3x3 .f32) (x11 x12 x13 : FVec Ideal S12 .f32)
    (f : Fin 128 → Fin 12 → Fin 224 → Fin 224 → ℝ)
    (hx : ∀ n c h w, val_main_v139 (F := Ideal) x0 x2 x3 x4 x5 x6 x7 x8 x9 (ix4 n c h w) = (f n c h w : EReal)) (p : Params 12 12) (hp : Weights p x10 x11 x12 x13)
    (n : Fin 128) (o : Fin 12) (h w : Fin 224) :
    val_main_v209 (F := Ideal) x0 x2 x3 x4 x5 x6 x7 x8 x9 x10 x11 x12 x13 (ix4 n o h w) = (layer p (f n) o h w : EReal) := by
  have hP : ∀ n c (y z : Fin 226), val_main_v140 (F := Ideal) x0 x2 x3 x4 x5 x6 x7 x8 x9 (ix4 n c y z) = (border (f n) c y.val z.val : EReal) := fun n c y z =>
    pad12_apply _ f hx _ zero_converted _ _ n c y z
  have z : val_main_v141 (F := Ideal) (ix4 n o h w) = 0 := (val_main_v141_apply _).trans zero_literal
  have z' : val_main_call5_v0 (F := Ideal) (ix4 n o h w) = 0 := (val_main_call5_v0_apply _).trans zero_literal
  have eb : val_main_v197 (F := Ideal) x11 (ix4 n o h w) = x11 (ix1 o) := by
    unfold val_main_v197 val_main_v196
    pointwise
  have et : val_main_v207 (F := Ideal) x13 (ix4 n o h w) = x13 (ix1 o) := by
    unfold val_main_v207 val_main_v206
    pointwise
  have es : val_main_v204 (F := Ideal) x12 (ix4 n o h w) = Ideal.div (x12 (ix1 o)) root := by
    unfold val_main_v204 val_main_v203 val_main_v202 val_main_v201
    pointwise
    rfl
  have t0 : val_main_v146 (F := Ideal) x0 x2 x3 x4 x5 x6 x7 x8 x9 x10 (ix4 n o h w) = (tap p.W (f n) o h w 0 0 : EReal) :=
    tap3_apply _ _ p f hP hp.W 0 0 _ _ n o h w
  have t1 : val_main_v152 (F := Ideal) x0 x2 x3 x4 x5 x6 x7 x8 x9 x10 (ix4 n o h w) = (tap p.W (f n) o h w 0 1 : EReal) :=
    tap3_apply _ _ p f hP hp.W 0 1 _ _ n o h w
  have t2 : val_main_v158 (F := Ideal) x0 x2 x3 x4 x5 x6 x7 x8 x9 x10 (ix4 n o h w) = (tap p.W (f n) o h w 0 2 : EReal) :=
    tap3_apply _ _ p f hP hp.W 0 2 _ _ n o h w
  have t3 : val_main_v164 (F := Ideal) x0 x2 x3 x4 x5 x6 x7 x8 x9 x10 (ix4 n o h w) = (tap p.W (f n) o h w 1 0 : EReal) :=
    tap3_apply _ _ p f hP hp.W 1 0 _ _ n o h w
  have t4 : val_main_v170 (F := Ideal) x0 x2 x3 x4 x5 x6 x7 x8 x9 x10 (ix4 n o h w) = (tap p.W (f n) o h w 1 1 : EReal) :=
    tap3_apply _ _ p f hP hp.W 1 1 _ _ n o h w
  have t5 : val_main_v176 (F := Ideal) x0 x2 x3 x4 x5 x6 x7 x8 x9 x10 (ix4 n o h w) = (tap p.W (f n) o h w 1 2 : EReal) :=
    tap3_apply _ _ p f hP hp.W 1 2 _ _ n o h w
  have t6 : val_main_v182 (F := Ideal) x0 x2 x3 x4 x5 x6 x7 x8 x9 x10 (ix4 n o h w) = (tap p.W (f n) o h w 2 0 : EReal) :=
    tap3_apply _ _ p f hP hp.W 2 0 _ _ n o h w
  have t7 : val_main_v188 (F := Ideal) x0 x2 x3 x4 x5 x6 x7 x8 x9 x10 (ix4 n o h w) = (tap p.W (f n) o h w 2 1 : EReal) :=
    tap3_apply _ _ p f hP hp.W 2 1 _ _ n o h w
  have t8 : val_main_v194 (F := Ideal) x0 x2 x3 x4 x5 x6 x7 x8 x9 x10 (ix4 n o h w) = (tap p.W (f n) o h w 2 2 : EReal) :=
    tap3_apply _ _ p f hP hp.W 2 2 _ _ n o h w
  rw [val_main_v209_apply, val_main_v208_apply, val_main_v205_apply, val_main_v198_apply, eb, et, es, z',
    val_main_v195_apply, val_main_v189_apply, val_main_v183_apply, val_main_v177_apply, val_main_v171_apply, val_main_v165_apply, val_main_v159_apply, val_main_v153_apply, val_main_v147_apply, z,
    t0, t1, t2, t3, t4, t5, t6, t7, t8]
  exact layer_chain p (f n) o h w (fun dy dx => (tap p.W (f n) o h w dy dx : EReal)) (fun _ _ => rfl) _ _ _ (hp.b o) (hp.s o) (hp.t o)

end Cert.Proof.RefConv

end

end
-- ==== Proof.RefTail.lean ====
/- The reference's last operations, read at an index. -/
module

public import proofs.«01_k».proof.Defs
public import proofs.«01_k».proof.Proof.Routing
public import proofs.«01_k».proof.Proof.RefConv
public import Idealize.ShloMosaic.Lib.ScatterToDense.RefScatter
public import proofs.«01_k».proof.Proof.Gen.Pre_finite_and_routable

@[expose] public section

noncomputable section

namespace Cert.Proof.RefTail

open Idealize Idealize.ShloMosaic Idealize.ShloMosaic.Pointwise
open Cert.ReferenceIdeal Cert.ReferenceIdeal.Gen Cert.ReferenceIdeal.Read
open Cert.Proof.Routing

local instance : Cert.ReferenceIdeal.Facts := Cert.ReferenceIdeal.Gen.facts

/-- The literal minus infinity. -/
theorem bot_literal : Ideal.ofBits .f32 0xFF800000#32 = ⊥ := by
  simp [Ideal.ofBits, Ideal.ieee]

/-- The exponentials of a table's rows less their maxima. -/
def exps (z : FVec Ideal S128x16 .f32) : FVec Ideal S128x16 .f32 :=
  Host.exp (subf z (broadcastInDim S128x16 ![0, 1] bcast_S128x1_S128x16_0_1 (broadcastInDim S128x1 ![0] bcast_S128_S128x1_0
    (maximumf (broadcastInDim S128 ![] bcast_S_S128 (constant S_ .f32 0xFF800000#32))
      (Host.reduce FloatOps.maximumf z (constant S_ .f32 0xFF800000#32) reducesTo_S128x16_S128_d1 h_S_)))))

/-- The exponentials, read at a row and a column. -/
theorem exps_apply (z : FVec Ideal S128x16 .f32) (n : Fin 128) {L : Fin 16 → EReal} {e1 e2 : Fin 16} (h : Top L e1 e2)
    (hz : ∀ e, z (ix2 n e) = L e) (e : Fin 16) : exps z (ix2 n e) = Ideal.exp (L e - L e1) := by
  unfold exps
  pointwise
  rw [bot_literal, Finset.fold_congr fun x _ => hz x, fold_max_eq L e1 h.max1, max_eq_right bot_le, hz]

/-- The softmax of a table's rows. -/
def probs (z : FVec Ideal S128x16 .f32) : FVec Ideal S128x16 .f32 :=
  Host.divf (exps z) (broadcastInDim S128x16 ![0, 1] bcast_S128x1_S128x16_0_1 (broadcastInDim S128x1 ![0] bcast_S128_S128x1_0
    (Host.reduceAdd (exps z) (constant S_ .f32 0x00000000#32) reducesTo_S128x16_S128_d1 h_S_)))

/-- The softmax, read at a row and a column. -/
theorem probs_apply (z : FVec Ideal S128x16 .f32) (n : Fin 128) {L : Fin 16 → EReal} {e1 e2 : Fin 16} (h : Top L e1 e2)
    (hz : ∀ e, z (ix2 n e) = L e) (e : Fin 16) : probs z (ix2 n e) = share L e1 e := by
  unfold probs share
  pointwise
  rw [exps_apply z n h hz, Finset.sum_congr rfl fun k _ => exps_apply z n h hz k]

/-- The two greatest values of every row. -/
def values (z : FVec Ideal S128x16 .f32) : FVec Ideal S128x2 .f32 :=
  (Host.topK S128x2 1 (FloatOps.cmpfTotal .gt) z sliceFits_S128x16_S128x2).1

/-- The places of the two greatest values of every row. -/
def places (z : FVec Ideal S128x16 .f32) : IVec S128x2 32 :=
  (Host.topK S128x2 1 (FloatOps.cmpfTotal .gt) z sliceFits_S128x16_S128x2).2

/-- Whether one place of a row comes before another. -/
def before (z : FVec Ideal S128x16 .f32) (n : Fin 128) (k k' : Fin 16) : Bool :=
  FloatOps.cmpfTotal (F := Ideal) (φ := .f32) .gt (z (ix2 n k)) (z (ix2 n k')) == 1#1

/-- The order of a row is that of its values, greatest first. -/
theorem before_iff (z : FVec Ideal S128x16 .f32) (n : Fin 128) {L : Fin 16 → EReal} (hz : ∀ e, z (ix2 n e) = L e) (k k' : Fin 16) :
    before z n k k' = true ↔ L k' < L k := by
  unfold before
  rw [hz, hz]
  show ((BitVec.ofBool (decide (L k' < L k))) == 1#1) = true ↔ _
  by_cases h : L k' < L k <;> simp [h]

/-- A row's position with its column replaced. -/
theorem along_column (n : Fin 128) (a k : Fin 16) : Shape.Idx.along (s := S128x16) (ix2 n a) 1 k = ix2 n k := by
  funext d
  fin_cases d <;> rfl

/-- The order of a row, written with the row's positions. -/
theorem before_along (z : FVec Ideal S128x16 .f32) (n : Fin 128) (a : Fin 16) :
    (fun k k' : Fin 16 => FloatOps.cmpfTotal (F := Ideal) (φ := .f32) .gt (z (Shape.Idx.along (s := S128x16) (ix2 n a) 1 k))
      (z (Shape.Idx.along (s := S128x16) (ix2 n a) 1 k')) == 1#1) = before z n := by
  funext k k'
  rw [along_column, along_column]
  rfl

/-- The sorted table, read at a row and a column. -/
theorem sorted_apply (z : FVec Ideal S128x16 .f32) (y : IVec S128x16 32) (n : Fin 128) (a : Fin 16) :
    (Host.sort2 S128x16 1 (fun l r => FloatOps.cmpfTotal (F := Ideal) (φ := .f32) .gt l.1 r.1) z y).1 (ix2 n a)
      = z (ix2 n (sortedFrom (before z n) a)) := by
  exact (congrArg (fun R : Fin 16 → Fin 16 → Bool => z (Shape.Idx.along (s := S128x16) (ix2 n a) 1 (sortedFrom R a)))
    (before_along z n a)).trans (congrArg z (along_column n a _))

/-- The array sorted along with the table, read at a row and a column. -/
theorem carried_apply (z : FVec Ideal S128x16 .f32) (y : IVec S128x16 32) (n : Fin 128) (a : Fin 16) :
    (Host.sort2 S128x16 1 (fun l r => FloatOps.cmpfTotal (F := Ideal) (φ := .f32) .gt l.1 r.1) z y).2 (ix2 n a)
      = y (ix2 n (sortedFrom (before z n) a)) := by
  exact (congrArg (fun R : Fin 16 → Fin 16 → Bool => y (Shape.Idx.along (s := S128x16) (ix2 n a) 1 (sortedFrom R a)))
    (before_along z n a)).trans (congrArg y (along_column n a _))

/-- The first columns of a table. -/
theorem first_columns (x : (⟨2, ![128, 16]⟩ : Shape).Idx → EReal) (n : Fin 128) (i : Fin 2) :
    extractStridedSlice S128x2 (fun _ => 0) x sliceFits_S128x16_S128x2 (ix2 n i) = x (ix2 n (i.castLE (by decide))) := by
  refine congrArg x (funext fun a => Fin.ext ?_)
  fin_cases a
  · exact Nat.zero_add _
  · exact Nat.zero_add _

/-- The first columns of a table of integers. -/
theorem first_columns_int (x : (⟨2, ![128, 16]⟩ : Shape).Idx → BitVec 32) (n : Fin 128) (i : Fin 2) :
    extractStridedSlice S128x2 (fun _ => 0) x sliceFits_S128x16_S128x2 (ix2 n i) = x (ix2 n (i.castLE (by decide))) := by
  refine congrArg x (funext fun a => Fin.ext ?_)
  fin_cases a
  · exact Nat.zero_add _
  · exact Nat.zero_add _

/-- The greatest values, read at a row and a place. -/
theorem values_apply (z : FVec Ideal S128x16 .f32) (n : Fin 128) {L : Fin 16 → EReal} {e1 e2 : Fin 16} (h : Top L e1 e2)
    (hz : ∀ e, z (ix2 n e) = L e) (i : Fin 2) : values z (ix2 n i) = L (![e1, e2] i) := by
  rw [← sortedFrom_top h (before z n) (before_iff z n hz) i, ← hz]
  exact (first_columns _ n i).trans (sorted_apply z (iotaInDim S128x16 32 1) n _)

/-- The places, read at a row and a place. -/
theorem places_apply (z : FVec Ideal S128x16 .f32) (n : Fin 128) {L : Fin 16 → EReal} {e1 e2 : Fin 16} (h : Top L e1 e2)
    (hz : ∀ e, z (ix2 n e) = L e) (i : Fin 2) : places z (ix2 n i) = BitVec.ofNat 32 (![e1, e2] i).val := by
  rw [← sortedFrom_top h (before z n) (before_iff z n hz) i]
  exact (first_columns_int _ n i).trans (carried_apply z (iotaInDim S128x16 32 1) n _)

/-- The softmax of the two greatest values. -/
def pair (v : FVec Ideal S128x2 .f32) : FVec Ideal S128x2 .f32 :=
  let x := Host.exp (subf v (broadcastInDim S128x2 ![0, 1] bcast_S128x1_S128x2_0_1 (broadcastInDim S128x1 ![0] bcast_S128_S128x1_0
    (maximumf (broadcastInDim S128 ![] bcast_S_S128 (constant S_ .f32 0xFF800000#32))
      (Host.reduce FloatOps.maximumf v (constant S_ .f32 0xFF800000#32) reducesTo_S128x2_S128_d1 h_S_)))))
  Host.divf x (broadcastInDim S128x2 ![0, 1] bcast_S128x1_S128x2_0_1 (broadcastInDim S128x1 ![0] bcast_S128_S128x1_0
    (Host.reduceAdd x (constant S_ .f32 0x00000000#32) reducesTo_S128x2_S128_d1 h_S_)))

/-- The softmax of the two greatest values, read at a row and a place. -/
theorem pair_apply (v : FVec Ideal S128x2 .f32) (n : Fin 128) (a b : EReal) (hab : b ≤ a) (ha : v (ix2 n 0) = a) (hb : v (ix2 n 1) = b)
    (i : Fin 2) : pair v (ix2 n i) = Ideal.div (Ideal.exp (![a, b] i - a)) (0 + (Ideal.exp (a - a) + Ideal.exp (b - a))) := by
  have hl : ∀ k : Fin 2, v (ix2 n k) = ![a, b] k := Fin.forall_fin_two.2 ⟨ha, hb⟩
  have hm : Finset.univ.fold max ⊥ ![a, b] = a := fold_max_eq ![a, b] 0 (Fin.forall_fin_two.2 ⟨le_rfl, hab⟩)
  unfold pair
  pointwise
  rw [bot_literal, Finset.fold_congr fun x _ => hl x, hm, max_eq_right bot_le, hl, Fin.sum_univ_two, ha, hb]

/-- The pairs of row and column the two weights of every row are set at. -/
def targets (p : IVec S128x2 32) : IVec S128x2x2 32 :=
  concatenate S128x2x2 2 [⟨S128x2x1, broadcastInDim S128x2x1 ![0, 1] bcast_S128x2_S128x2x1_0_1
      (broadcastInDim S128x2 ![0, 1] bcast_S128x1_S128x2_0_1
        (select (cmpi .slt (broadcastInDim S128x1 ![0] bcast_S128_S128x1_0 (iotaInDim S128 32 0)) (broadcastInDim S128x1 ![] bcast_S_S128x1 (constantI S_ 32 0#32)))
          (addi (broadcastInDim S128x1 ![0] bcast_S128_S128x1_0 (iotaInDim S128 32 0)) (broadcastInDim S128x1 ![] bcast_S_S128x1 (constantI S_ 32 128#32)))
          (broadcastInDim S128x1 ![0] bcast_S128_S128x1_0 (iotaInDim S128 32 0))))⟩,
    ⟨S128x2x1, broadcastInDim S128x2x1 ![0, 1] bcast_S128x2_S128x2x1_0_1
      (select (cmpi .slt p (broadcastInDim S128x2 ![] bcast_S_S128x2 (constantI S_ 32 0#32)))
        (addi p (broadcastInDim S128x2 ![] bcast_S_S128x2 (constantI S_ 32 16#32))) p)⟩]
    concatenates_S128x2x1_S128x2x1_S128x2x2_d2

/-- A small number is not negative, and is not wrapped. -/
theorem no_wrap (k : Fin 128) (x y : BitVec 32) :
    Scalar.select (IntOp.cmpi .slt (BitVec.ofNat 32 k.val) 0#32) x y = y := by
  have h : ∀ k : Fin 128, IntOp.cmpi .slt (BitVec.ofNat 32 k.val) 0#32 = 0#1 := by decide
  rw [h]
  rfl

/-- The row a weight is set at. -/
theorem targets_row (p : IVec S128x2 32) (n : Fin 128) (i : Fin 2) : targets p (ix3 n i 0) = BitVec.ofNat 32 n.val := by
  unfold targets
  pointwise
  exact no_wrap n _ _

/-- The column a weight is set at. -/
theorem targets_column (p : IVec S128x2 32) (n : Fin 128) (i : Fin 2) (e : Fin 16) (hp : p (ix2 n i) = BitVec.ofNat 32 e.val) :
    targets p (ix3 n i 1) = BitVec.ofNat 32 e.val := by
  unfold targets
  pointwise
  rw [hp]
  exact no_wrap (e.castLE (by decide)) _ _

/-- The sparse weights: the two values set at their places in zeros. -/
def sparse (z : FVec Ideal S128x16 .f32) : FVec Ideal S128x16 .f32 :=
  Host.scatter scatter_S128x16_S128x2x2_S128x2_n_01_01_2 (fun _ b => b)
    (broadcastInDim S128x16 ![] bcast_S_S128x16 (constant S_ .f32 0x00000000#32)) (targets (places z)) (pair (values z))

/-- The sparse weights, read at a row and a column. -/
theorem sparse_apply (z : FVec Ideal S128x16 .f32) {L : Fin 128 → Fin 16 → EReal} {e1 e2 : Fin 128 → Fin 16}
    (h : ∀ n, Top (L n) (e1 n) (e2 n)) (hz : ∀ n e, z (ix2 n e) = L n e) (hb : ∀ n, L n (e1 n) ≠ ⊥) (ht : ∀ n, L n (e1 n) ≠ ⊤)
    (n : Fin 128) (e : Fin 16) : sparse z (ix2 n e) = routed (L n) (e1 n) (e2 n) e := by
  let word : Fin 128 → ℕ → BitVec 32 := fun n k => BitVec.ofNat 32 (if k = 0 then e1 n else e2 n).val
  let val : Fin 128 → ℕ → EReal := fun n k => Ideal.div (Ideal.exp (L n (if k = 0 then e1 n else e2 n) - L n (e1 n)))
    (0 + (Ideal.exp (L n (e1 n) - L n (e1 n)) + Ideal.exp (L n (e2 n) - L n (e1 n))))
  have hv : ∀ n (i : Fin 2), values z (ix2 n i) = L n (![e1 n, e2 n] i) := fun n i => values_apply z n (h n) (hz n) i
  have hword : ∀ n (i : Fin 2), targets (places z) (ix3 n i 1) = word n i.val := fun n i => by
    rw [targets_column _ n i _ (places_apply z n (h n) (hz n) i)]
    fin_cases i <;> rfl
  have hval : ∀ n (i : Fin 2), pair (values z) (ix2 n i) = val n i.val := fun n i => by
    rw [pair_apply (values z) n (L n (e1 n)) (L n (e2 n)) ((h n).max1 _) (hv n 0) (hv n 1) i]
    fin_cases i <;> rfl
  have key := ScatterToDense.scatter_eq_GS scatter_S128x16_S128x2x2_S128x2_n_01_01_2 rfl rfl rfl (by decide) (by decide)
    (broadcastInDim S128x16 ![] bcast_S_S128x16 (constant (F := Ideal) S_ .f32 0x00000000#32)) (targets (places z)) (pair (values z)) word val
    (fun n i => targets_row _ n i) hword hval n e
  have hn : ∀ k : Fin 16, e.val = (BitVec.ofNat 32 k.val).toNat ↔ e = k := fun k => by
    rw [BitVec.toNat_ofNat, Nat.mod_eq_of_lt (by omega)]
    exact Fin.ext_iff.symm
  have h0 : broadcastInDim S128x16 ![] bcast_S_S128x16 (constant (F := Ideal) S_ .f32 0x00000000#32) (ix2 n e) = 0 := by
    pointwise
  refine key.trans ((congrArg (fun f => ScatterToDense.GS (word n) (val n) f e.val 2) h0).trans ?_)
  rw [← softmax_two (hb n) (ht n) e]
  show (if e.val = (BitVec.ofNat 32 (e2 n).val).toNat then _ else if e.val = (BitVec.ofNat 32 (e1 n).val).toNat then _ else (0 : EReal)) = _
  simp only [hn]
  rfl

end Cert.Proof.RefTail

end

end
-- ==== Proof.RefLogits.lean ====
/- The reference's means and masked logits, read at an index. -/
module

public import proofs.«01_k».proof.Proof.Routing
public import proofs.«01_k».proof.Proof.RefTail

@[expose] public section

noncomputable section

namespace Cert.Proof.RefLogits

open Idealize Idealize.ShloMosaic Idealize.ShloMosaic.Pointwise
open Cert.ReferenceIdeal Cert.ReferenceIdeal.Gen Cert.ReferenceIdeal.Read
open Cert.Proof.Spec Cert.Proof.Routing Cert.Proof.RefTail

local instance : Cert.ReferenceIdeal.Facts := Cert.ReferenceIdeal.Gen.facts

/-- The number of pixels. -/
theorem pixels_literal : Ideal.ofBits .f32 0x47440000#32 = ((50176 : ℝ) : EReal) := by
  simp [Ideal.ofBits, Ideal.ieee, -EReal.coe_mul]
  norm_num

/-- The mean of every channel. -/
def mean (x : FVec Ideal S128x12x224x224 .f32) : FVec Ideal S128x12 .f32 :=
  Host.divf (Host.reduceAdd x (constant S_ .f32 0x00000000#32) reducesTo_S128x12x224x224_S128x12_d2_3 h_S_)
    (broadcastInDim S128x12 ![] bcast_S_S128x12 (constant S_ .f32 0x47440000#32))

/-- The mean of a real channel. -/
theorem mean_apply (x : FVec Ideal S128x12x224x224 .f32) (f : Fin 128 → Fin 12 → Fin 224 → Fin 224 → ℝ)
    (hx : ∀ n c h w, x (ix4 n c h w) = (f n c h w : EReal)) (n : Fin 128) (c : Fin 12) :
    mean x (ix2 n c) = (pooled (f n) c : EReal) := by
  unfold mean pooled
  pointwise
  rw [pixels_literal, Ideal.div_coe (by norm_num), EReal.coe_mul, coe_sum,
    Finset.sum_congr rfl fun h _ => (Finset.sum_congr rfl fun w _ => hx n c h w).trans (coe_sum _ _).symm]

/-- The masked logits. -/
def logits (a : FVec Ideal S128x12 .f32) (k : IVec S128x16 32) (g : FVec Ideal S16x12 .f32) (b : FVec Ideal S16 .f32) :
    FVec Ideal S128x16 .f32 :=
  select (cmpi .eq k (broadcastInDim S128x16 ![] bcast_S_S128x16 (constantI S_ 32 0#32)))
    (broadcastInDim S128x16 ![] bcast_S_S128x16 (constant S_ .f32 0xFF800000#32))
    (addf (Host.dotGeneral dot_S128x12_S12x16_S128x16_1_0_0_1_n_n none a (transpose S12x16 [1, 0] g transposes_S16x12_S12x16_1_0))
      (broadcastInDim S128x16 ![0, 1] bcast_S1x16_S128x16_0_1 (broadcastInDim S1x16 ![1] bcast_S16_S1x16_1 b)))

/-- The masked logits, read at a row and a column. -/
theorem logits_apply (a : FVec Ideal S128x12 .f32) (k : IVec S128x16 32) (g : FVec Ideal S16x12 .f32) (b : FVec Ideal S16 .f32)
    (n : Fin 128) (e : Fin 16) : logits a k g b (ix2 n e)
      = if k (ix2 n e) = 0#32 then ⊥ else (∑ j : Fin 12, g (ix2 e j) * a (ix2 n j)) + b (ix1 e) := by
  rw [Finset.sum_congr rfl fun j _ => mul_comm (g (ix2 e j)) (a (ix2 n j)), ← bot_literal]
  unfold logits
  pointwise [dot_S128x12_S12x16_S128x16_1_0_0_1_n_n]
  exact select_cmpi_eq _ _ _ _

end Cert.Proof.RefLogits

end

end
-- ==== Proof.RefResults.lean ====
/- The reference's results, read at an index. -/
module

public import proofs.«01_k».proof.Proof.RefLogits

@[expose] public section

noncomputable section

namespace Cert.Proof.RefResults

open Idealize Idealize.ShloMosaic Idealize.ShloMosaic.Pointwise
open Cert.ReferenceIdeal Cert.ReferenceIdeal.Gen Cert.ReferenceIdeal.Read
open Cert.Proof.Spec Cert.Proof.Params Cert.Proof.Routing Cert.Proof.RefConv Cert.Proof.RefTail Cert.Proof.RefLogits

local instance : Cert.ReferenceIdeal.Facts := Cert.ReferenceIdeal.Gen.facts

variable (x0 : FVec Ideal S128x3x224x224 .f32) (x1 : IVec S128x16 32) (x2 : FVec Ideal S6x3x3x3 .f32) (x3 : FVec Ideal S6 .f32) (x4 : FVec Ideal S6 .f32) (x5 : FVec Ideal S6 .f32) (x6 : FVec Ideal S12x6x3x3 .f32) (x7 : FVec Ideal S12 .f32) (x8 : FVec Ideal S12 .f32) (x9 : FVec Ideal S12 .f32) (x10 : FVec Ideal S12x12x3x3 .f32) (x11 : FVec Ideal S12 .f32) (x12 : FVec Ideal S12 .f32) (x13 : FVec Ideal S12 .f32) (x14 : FVec Ideal S16x12 .f32) (x15 : FVec Ideal S16 .f32)

/-- The reference's masked logits. -/
def table : FVec Ideal S128x16 .f32 := logits (mean (val_main_v209 (F := Ideal) x0 x2 x3 x4 x5 x6 x7 x8 x9 x10 x11 x12 x13)) x1 x14 x15

/-- The second result is the softmax of the masked logits. -/
theorem probs_eq : val_main_v231 (F := Ideal) x0 x1 x2 x3 x4 x5 x6 x7 x8 x9 x10 x11 x12 x13 x14 x15 = probs (table x0 x1 x2 x3 x4 x5 x6 x7 x8 x9 x10 x11 x12 x13 x14 x15) := rfl

/-- The first result is the sparse weights of the masked logits. -/
theorem sparse_eq : val_main_v260 (F := Ideal) x0 x1 x2 x3 x4 x5 x6 x7 x8 x9 x10 x11 x12 x13 x14 x15 = sparse (table x0 x1 x2 x3 x4 x5 x6 x7 x8 x9 x10 x11 x12 x13 x14 x15) := rfl

/-- The arguments of the reference hold these images and parameters. -/
structure Holds (N : Net) : Prop where
  x : ∀ n c h w, x0 (ix4 n c h w) = (N.x n c h w : EReal)
  w1 : Weights N.p1 x2 x3 x4 x5
  w2 : Weights N.p2 x6 x7 x8 x9
  w3 : Weights N.p3 x10 x11 x12 x13

/-- The masked logits, read at a row and a column. -/
theorem table_apply (N : Net) (hN : Holds x0 x2 x3 x4 x5 x6 x7 x8 x9 x10 x11 x12 x13 N) (n : Fin 128) (e : Fin 16) :
    table x0 x1 x2 x3 x4 x5 x6 x7 x8 x9 x10 x11 x12 x13 x14 x15 (ix2 n e) = row N x1 x14 x15 n e := by
  unfold table row
  rw [logits_apply]
  have h1 := layer1_apply x0 x2 x3 x4 x5 N.x hN.x N.p1 hN.w1
  have h2 := layer2_apply x0 x2 x3 x4 x5 x6 x7 x8 x9 (fun n => layer N.p1 (N.x n)) h1 N.p2 hN.w2
  have h3 := layer3_apply x0 x2 x3 x4 x5 x6 x7 x8 x9 x10 x11 x12 x13 (fun n => layer N.p2 (layer N.p1 (N.x n))) h2 N.p3 hN.w3
  have hm : ∀ j, mean (val_main_v209 (F := Ideal) x0 x2 x3 x4 x5 x6 x7 x8 x9 x10 x11 x12 x13) (ix2 n j) = (N.mean n j : EReal) := fun j =>
    mean_apply _ (fun n => layer N.p3 (layer N.p2 (layer N.p1 (N.x n)))) h3 n j
  rw [Finset.sum_congr rfl fun j _ => congrArg (x14 (ix2 e j) * ·) (hm j)]

/-- The first result as an array. -/
theorem sparse_result (N : Net) (hN : Holds x0 x2 x3 x4 x5 x6 x7 x8 x9 x10 x11 x12 x13 N) (e1 e2 : Fin 128 → Fin 16)
    (ht : ∀ n, Top (row N x1 x14 x15 n) (e1 n) (e2 n))
    (hr : ∀ n, row N x1 x14 x15 n (e1 n) ≠ ⊥ ∧ row N x1 x14 x15 n (e1 n) ≠ ⊤) :
    val_main_v260 (F := Ideal) x0 x1 x2 x3 x4 x5 x6 x7 x8 x9 x10 x11 x12 x13 x14 x15
      = fun i => routed (row N x1 x14 x15 (i 0)) (e1 (i 0)) (e2 (i 0)) (i 1) := by
  funext i
  obtain ⟨n, e, rfl⟩ : ∃ n e, i = ix2 n e := ⟨i 0, i 1, eq_ix2 i⟩
  rw [sparse_eq]
  exact sparse_apply _ ht (table_apply x0 x1 x2 x3 x4 x5 x6 x7 x8 x9 x10 x11 x12 x13 x14 x15 N hN) (fun n => (hr n).1) (fun n => (hr n).2) n e

/-- The second result as an array. -/
theorem probs_result (N : Net) (hN : Holds x0 x2 x3 x4 x5 x6 x7 x8 x9 x10 x11 x12 x13 N) (e1 e2 : Fin 128 → Fin 16)
    (ht : ∀ n, Top (row N x1 x14 x15 n) (e1 n) (e2 n)) :
    val_main_v231 (F := Ideal) x0 x1 x2 x3 x4 x5 x6 x7 x8 x9 x10 x11 x12 x13 x14 x15
      = fun i => share (row N x1 x14 x15 (i 0)) (e1 (i 0)) (i 1) := by
  funext i
  obtain ⟨n, e, rfl⟩ : ∃ n e, i = ix2 n e := ⟨i 0, i 1, eq_ix2 i⟩
  rw [probs_eq]
  exact probs_apply _ n (ht n) (fun e => table_apply x0 x1 x2 x3 x4 x5 x6 x7 x8 x9 x10 x11 x12 x13 x14 x15 N hN n e) e

/-- Both results over arrays that are equal to the given ones. -/
theorem both (N : Net) (hN : Holds x0 x2 x3 x4 x5 x6 x7 x8 x9 x10 x11 x12 x13 N) (e1 e2 : Fin 128 → Fin 16)
    (ht : ∀ n, Top (row N x1 x14 x15 n) (e1 n) (e2 n))
    (hr : ∀ n, row N x1 x14 x15 n (e1 n) ≠ ⊥ ∧ row N x1 x14 x15 n (e1 n) ≠ ⊤)
    (y0 : FVec Ideal S128x3x224x224 .f32) (y1 : IVec S128x16 32) (y2 : FVec Ideal S6x3x3x3 .f32) (y3 : FVec Ideal S6 .f32) (y4 : FVec Ideal S6 .f32) (y5 : FVec Ideal S6 .f32) (y6 : FVec Ideal S12x6x3x3 .f32) (y7 : FVec Ideal S12 .f32) (y8 : FVec Ideal S12 .f32) (y9 : FVec Ideal S12 .f32) (y10 : FVec Ideal S12x12x3x3 .f32) (y11 : FVec Ideal S12 .f32) (y12 : FVec Ideal S12 .f32) (y13 : FVec Ideal S12 .f32) (y14 : FVec Ideal S16x12 .f32) (y15 : FVec Ideal S16 .f32)
    (h0 : y0 = x0) (h1 : y1 = x1) (h2 : y2 = x2) (h3 : y3 = x3) (h4 : y4 = x4) (h5 : y5 = x5) (h6 : y6 = x6) (h7 : y7 = x7) (h8 : y8 = x8) (h9 : y9 = x9) (h10 : y10 = x10) (h11 : y11 = x11) (h12 : y12 = x12) (h13 : y13 = x13) (h14 : y14 = x14) (h15 : y15 = x15) :
    val_main_v260 (F := Ideal) y0 y1 y2 y3 y4 y5 y6 y7 y8 y9 y10 y11 y12 y13 y14 y15 = (fun i => routed (row N x1 x14 x15 (i 0)) (e1 (i 0)) (e2 (i 0)) (i 1))
    ∧ val_main_v231 (F := Ideal) y0 y1 y2 y3 y4 y5 y6 y7 y8 y9 y10 y11 y12 y13 y14 y15 = fun i => share (row N x1 x14 x15 (i 0)) (e1 (i 0)) (i 1) := by
  subst h0 h1 h2 h3 h4 h5 h6 h7 h8 h9 h10 h11 h12 h13 h14 h15
  exact ⟨sparse_result y0 y1 y2 y3 y4 y5 y6 y7 y8 y9 y10 y11 y12 y13 y14 y15 N hN e1 e2 ht hr, probs_result y0 y1 y2 y3 y4 y5 y6 y7 y8 y9 y10 y11 y12 y13 y14 y15 N hN e1 e2 ht⟩

end Cert.Proof.RefResults

end

end
-- ==== Proof.Lift.lean ====
/- What the precondition says of the arguments. -/
module

public import proofs.«01_k».proof.Defs
public import proofs.«01_k».proof.Proof.Params
public import proofs.«01_k».proof.Proof.Routing
public import proofs.«01_k».proof.Proof.Gen.Pre_finite_and_routable
public import Idealize.ShloMosaic.Lib.Pointwise

@[expose] public section

noncomputable section

namespace Cert.Proof.Lift

open Idealize Idealize.ShloMosaic Idealize.ShloMosaic.Pointwise
open Cert.Proof.Spec Cert.Proof.Params Cert.Proof.Routing

/-- The literal infinity. -/
theorem top_literal : Ideal.ofBits .f32 0x7F800000#32 = ⊤ := by
  simp [Ideal.ofBits, Ideal.ieee]

/-- An extended real whose absolute value is below infinity is a real number. -/
theorem real_of_abs (x : EReal) (h : max x (-x) < ⊤) : ∃ r : ℝ, x = (r : EReal) := by
  induction x with
  | bot => simp at h
  | coe r => exact ⟨r, rfl⟩
  | top => simp at h

/-- A finite array holds real numbers. -/
theorem finite {s : Shape} (x : FVec Ideal s .f32) (hb : (⟨0, ![]⟩ : Shape).BroadcastsInDim s (![] : Fin 0 → Fin s.rank))
    (h : cmpf .olt (Host.absf x) (broadcastInDim s ![] hb (constant (⟨0, ![]⟩ : Shape) .f32 0x7F800000#32)) = fun _ => 1#1) (i : s.Idx) :
    ∃ r : ℝ, x i = (r : EReal) := by
  have e : BitVec.ofBool (decide (max (x i) (-(x i)) < Ideal.ofBits .f32 0x7F800000#32)) = 1#1 := congrFun h i
  rw [top_literal] at e
  refine real_of_abs _ ?_
  by_contra hn
  rw [decide_eq_false hn] at e
  exact absurd e (by decide)

/-- Every row of the mask has a place that is not zero. -/
theorem routable (k : IVec (⟨2, ![128, 16]⟩ : Shape) 32)
    (hb : (⟨0, ![]⟩ : Shape).BroadcastsInDim (⟨2, ![128, 16]⟩ : Shape) (![] : Fin 0 → Fin 2))
    (hr : (⟨2, ![128, 16]⟩ : Shape).ReducesTo [1] (⟨1, ![128]⟩ : Shape)) (hu : 0 < (⟨0, ![]⟩ : Shape).numel)
    (h : Host.reduce IntOp.ori (cmpi .ne k (broadcastInDim (⟨2, ![128, 16]⟩ : Shape) ![] hb (constantI (⟨0, ![]⟩ : Shape) 32 0#32)))
      (constantI (⟨0, ![]⟩ : Shape) 1 0#1) hr hu = fun _ => 1#1) (n : Fin 128) : ∃ e : Fin 16, k (ix2 n e) ≠ 0#32 := by
  by_contra hn
  have hn : ∀ e, k (ix2 n e) = 0#32 := by simpa using hn
  have e := congrFun h (ix1 n)
  revert e
  pointwise
  rw [Finset.fold_congr (g := fun _ => 0#1) fun e _ => by rw [hn e]; rfl]
  decide

/-- A row with an unmasked place has a greatest value that is a real number. -/
theorem top_real (N : Net) (k : (⟨2, ![128, 16]⟩ : Shape).Idx → BitVec 32) (g : (⟨2, ![16, 12]⟩ : Shape).Idx → EReal)
    (b : (⟨1, ![16]⟩ : Shape).Idx → EReal) (hg : ∀ i, ∃ r : ℝ, g i = (r : EReal)) (hb : ∀ i, ∃ r : ℝ, b i = (r : EReal))
    (n : Fin 128) (hk : ∃ e : Fin 16, k (ix2 n e) ≠ 0#32) {e1 e2 : Fin 16} (h : Top (row N k g b n) e1 e2) :
    row N k g b n e1 ≠ ⊥ ∧ row N k g b n e1 ≠ ⊤ := by
  have hr : ∀ e, k (ix2 n e) ≠ 0#32 → ∃ r : ℝ, row N k g b n e = (r : EReal) := fun e he => by
    choose g' hg using hg
    choose b' hb using hb
    refine ⟨(∑ j : Fin 12, g' (ix2 e j) * N.mean n j) + b' (ix1 e), ?_⟩
    unfold row
    rw [if_neg he, hb, EReal.coe_add, coe_sum]
    congr 1
    exact Finset.sum_congr rfl fun j _ => by rw [hg, EReal.coe_mul]
  constructor
  · obtain ⟨e, he⟩ := hk
    obtain ⟨r, er⟩ := hr e he
    have := h.max1 e
    rw [er] at this
    exact fun hbot => absurd (hbot ▸ this) (by simp)
  · by_cases he : k (ix2 n e1) = 0#32
    · unfold row
      rw [if_pos he]
      exact bot_ne_top
    · obtain ⟨r, er⟩ := hr e1 he
      rw [er]
      exact EReal.coe_ne_top r

end Cert.Proof.Lift

end

end
-- ==== Proof.Equation.lean ====
/- The equation of the kernel and the reference. -/
module

public import proofs.«01_k».proof.Proof.KResults
public import proofs.«01_k».proof.Proof.RefResults
public import proofs.«01_k».proof.Proof.Lift

@[expose] public section

noncomputable section

namespace Cert.Proof.Equation

open Idealize Idealize.ShloMosaic Idealize.ShloMosaic.Pointwise Idealize.SL Idealize.SL.Sem
open Cert.Proof.Spec Cert.Proof.Params Cert.Proof.Routing Cert.Proof.Lift Cert.Proof.KResults

local instance : Cert.KernelIdeal.Facts := Cert.KernelIdeal.Gen.facts
local instance : Cert.ReferenceIdeal.Facts := Cert.ReferenceIdeal.Gen.facts
local instance : Cert.Pre_finite_and_routable.Facts := Cert.Pre_finite_and_routable.Gen.facts

variable (m : (ℓ : Loc Cert.KernelIdeal.nD Cert.KernelIdeal.τ Cert.KernelIdeal.sig) → Buf (Elt Ideal) ℓ)

/-- Under the precondition the arguments hold real images and parameters, and every row of logits has two greatest places, the
first of them a real number. -/
theorem exists_net (hp : Cert.Pre_KernelIdeal_finite_and_routable m) (c : Dev Cert.KernelIdeal.nD) :
    ∃ (N : Net) (e1 e2 : Fin 128 → Fin 16), Holds m c N ∧ (∀ n, Top (rows m c N n) (e1 n) (e2 n))
      ∧ ∀ n, rows m c N n (e1 n) ≠ ⊥ ∧ rows m c N n (e1 n) ≠ ⊤ := by
  have h := hp c
  have r0 := finite (m ((c.tc : Thread Cert.KernelIdeal.nD Cert.KernelIdeal.τ).loc Cert.KernelIdeal.main_arg0)) _ h.1
  have r2 := finite (m ((c.tc : Thread Cert.KernelIdeal.nD Cert.KernelIdeal.τ).loc Cert.KernelIdeal.main_arg2)) _ h.2.1
  have r3 := finite (m ((c.tc : Thread Cert.KernelIdeal.nD Cert.KernelIdeal.τ).loc Cert.KernelIdeal.main_arg3)) _ h.2.2.1
  have r4 := finite (m ((c.tc : Thread Cert.KernelIdeal.nD Cert.KernelIdeal.τ).loc Cert.KernelIdeal.main_arg4)) _ h.2.2.2.1
  have r5 := finite (m ((c.tc : Thread Cert.KernelIdeal.nD Cert.KernelIdeal.τ).loc Cert.KernelIdeal.main_arg5)) _ h.2.2.2.2.1
  have r6 := finite (m ((c.tc : Thread Cert.KernelIdeal.nD Cert.KernelIdeal.τ).loc Cert.KernelIdeal.main_arg6)) _ h.2.2.2.2.2.1
  have r7 := finite (m ((c.tc : Thread Cert.KernelIdeal.nD Cert.KernelIdeal.τ).loc Cert.KernelIdeal.main_arg7)) _ h.2.2.2.2.2.2.1
  have r8 := finite (m ((c.tc : Thread Cert.KernelIdeal.nD Cert.KernelIdeal.τ).loc Cert.KernelIdeal.main_arg8)) _ h.2.2.2.2.2.2.2.1
  have r9 := finite (m ((c.tc : Thread Cert.KernelIdeal.nD Cert.KernelIdeal.τ).loc Cert.KernelIdeal.main_arg9)) _ h.2.2.2.2.2.2.2.2.1
  have r10 := finite (m ((c.tc : Thread Cert.KernelIdeal.nD Cert.KernelIdeal.τ).loc Cert.KernelIdeal.main_arg10)) _ h.2.2.2.2.2.2.2.2.2.1
  have r11 := finite (m ((c.tc : Thread Cert.KernelIdeal.nD Cert.KernelIdeal.τ).loc Cert.KernelIdeal.main_arg11)) _ h.2.2.2.2.2.2.2.2.2.2.1
  have r12 := finite (m ((c.tc : Thread Cert.KernelIdeal.nD Cert.KernelIdeal.τ).loc Cert.KernelIdeal.main_arg12)) _ h.2.2.2.2.2.2.2.2.2.2.2.1
  have r13 := finite (m ((c.tc : Thread Cert.KernelIdeal.nD Cert.KernelIdeal.τ).loc Cert.KernelIdeal.main_arg13)) _ h.2.2.2.2.2.2.2.2.2.2.2.2.1
  have r14 := finite (m ((c.tc : Thread Cert.KernelIdeal.nD Cert.KernelIdeal.τ).loc Cert.KernelIdeal.main_arg14)) _ h.2.2.2.2.2.2.2.2.2.2.2.2.2.1
  have r15 := finite (m ((c.tc : Thread Cert.KernelIdeal.nD Cert.KernelIdeal.τ).loc Cert.KernelIdeal.main_arg15)) _ h.2.2.2.2.2.2.2.2.2.2.2.2.2.2.1
  have rk := routable (m ((c.tc : Thread Cert.KernelIdeal.nD Cert.KernelIdeal.τ).loc Cert.KernelIdeal.main_arg1)) _ _ _ h.2.2.2.2.2.2.2.2.2.2.2.2.2.2.2
  choose x hx using r0
  obtain ⟨p1, w1⟩ := exists_weights (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) r2 r3 r4 r5
  obtain ⟨p2, w2⟩ := exists_weights (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) r6 r7 r8 r9
  obtain ⟨p3, w3⟩ := exists_weights (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) r10 r11 r12 r13
  let N : Net := ⟨fun n ch hh w => x (ix4 n ch hh w), p1, p2, p3⟩
  have ht : ∀ n, ∃ e1 e2, Top (rows m c N n) e1 e2 := fun n => exists_top _
  choose e1 e2 ht using ht
  exact ⟨N, e1, e2, ⟨fun n ch hh w => hx _, w1, w2, w3⟩, ht, fun n => top_real N _ _ _ r14 r15 n (rk n) (ht n)⟩

/-- The kernel's two results and the reference's are the same arrays. -/
theorem algebraic : Cert.algebraic_KernelIdeal_ReferenceIdeal_pre_finite_and_routable := by
  intro m g m' g' hp ha
  choose N e1 e2 hN ht hr using exists_net m hp
  refine ⟨fun c => (fun i => routed (rows m c (N c) (i 0)) (e1 c (i 0)) (e2 c (i 0)) (i 1) : FVec Ideal Cert.KernelIdeal.S128x16 .f32),
    fun c => (fun i => share (rows m c (N c) (i 0)) (e1 c (i 0)) (i 1) : FVec Ideal Cert.KernelIdeal.S128x16 .f32), ?_, ?_⟩
  · refine (θ_run _ _ _).mono (fun r h c => ⟨(h.1 c).1.trans ?_, (h.1 c).2.trans ?_, h.2 c⟩)
      (θ_run_and (KFinal.run_results m g
        (fun c => fun i => routed (rows m c (N c) (i 1)) (e1 c (i 1)) (e2 c (i 1)) (i 0))
        (fun c => fun i => share (rows m c (N c) (i 1)) (e1 c (i 1)) (i 0))
        (fun c t h127 => (blocks m c (N c) (hN c) (e1 c) (e2 c) (ht c) t h127).1)
        (fun c t h127 => (blocks m c (N c) (hN c) (e1 c) (e2 c) (ht c) t h127).2))
        (Cert.KernelIdeal.Gen.unchanged m g))
    · funext i
      obtain ⟨n, e, rfl⟩ : ∃ n e, i = ix2 n e := ⟨i 0, i 1, eq_ix2 i⟩
      pointwise
    · funext i
      obtain ⟨n, e, rfl⟩ : ∃ n e, i = ix2 n e := ⟨i 0, i 1, eq_ix2 i⟩
      pointwise
  · refine (θ_run _ _ _).mono (fun r h c => ⟨(h c).1.trans ?_, (h c).2.1.trans ?_, (h c).2.2⟩)
      (Cert.ReferenceIdeal.Value.run (F := Ideal) m' g')
    · exact (Cert.ReferenceIdeal.Read.val_main_v260_eq _).trans (RefResults.both _ _ _ _ _ _ _ _ _ _ _ _ _ _ _ _ (N c)
        ⟨(hN c).x, (hN c).w1, (hN c).w2, (hN c).w3⟩ (e1 c) (e2 c) (ht c) (hr c) _ _ _ _ _ _ _ _ _ _ _ _ _ _ _ _ (ha c).1 (ha c).2.1 (ha c).2.2.1 (ha c).2.2.2.1 (ha c).2.2.2.2.1 (ha c).2.2.2.2.2.1 (ha c).2.2.2.2.2.2.1 (ha c).2.2.2.2.2.2.2.1 (ha c).2.2.2.2.2.2.2.2.1 (ha c).2.2.2.2.2.2.2.2.2.1 (ha c).2.2.2.2.2.2.2.2.2.2.1 (ha c).2.2.2.2.2.2.2.2.2.2.2.1 (ha c).2.2.2.2.2.2.2.2.2.2.2.2.1 (ha c).2.2.2.2.2.2.2.2.2.2.2.2.2.1 (ha c).2.2.2.2.2.2.2.2.2.2.2.2.2.2.1 (ha c).2.2.2.2.2.2.2.2.2.2.2.2.2.2.2).1
    · exact (Cert.ReferenceIdeal.Read.val_main_v231_eq _).trans (RefResults.both _ _ _ _ _ _ _ _ _ _ _ _ _ _ _ _ (N c)
        ⟨(hN c).x, (hN c).w1, (hN c).w2, (hN c).w3⟩ (e1 c) (e2 c) (ht c) (hr c) _ _ _ _ _ _ _ _ _ _ _ _ _ _ _ _ (ha c).1 (ha c).2.1 (ha c).2.2.1 (ha c).2.2.2.1 (ha c).2.2.2.2.1 (ha c).2.2.2.2.2.1 (ha c).2.2.2.2.2.2.1 (ha c).2.2.2.2.2.2.2.1 (ha c).2.2.2.2.2.2.2.2.1 (ha c).2.2.2.2.2.2.2.2.2.1 (ha c).2.2.2.2.2.2.2.2.2.2.1 (ha c).2.2.2.2.2.2.2.2.2.2.2.1 (ha c).2.2.2.2.2.2.2.2.2.2.2.2.1 (ha c).2.2.2.2.2.2.2.2.2.2.2.2.2.1 (ha c).2.2.2.2.2.2.2.2.2.2.2.2.2.2.1 (ha c).2.2.2.2.2.2.2.2.2.2.2.2.2.2.2).2

end Cert.Proof.Equation

end

end
-- ==== Proof.lean ====
module

public import proofs.«01_k».proof.Defs
public import proofs.«01_k».proof.Proof.Frames
public import proofs.«01_k».proof.Proof.Equation

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.Pre_finite_and_routable.Gen.facts,
    fun m ρ _ => Cert.Kernel.Gen.frame m ρ, fun m ρ _ => Cert.KernelIdeal.Gen.frame m ρ,
    fun m ρ _ => Cert.KernelIdeal.Gen.frame m ρ, Frames.frame_reference,
    fun m ρ _ => Frames.frame_reference m ρ trivial, Frames.preserves, Equation.algebraic⟩

end Cert.Proof

end
